-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v35) = v0 c
          ∧ r.2.mem ((c.tc : Thread Cert.Reference8Ideal.nD Cert.Reference8Ideal.τ).loc Cert.Reference8Ideal.main_v18) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)) (v5 : (c : Dev Cert.Kernel9Ideal.nD) → Buf (Elt Ideal) ((c.tc : Thread Cert.Kernel9Ideal.nD Cert.Kernel9Ideal.τ).loc Cert.Kernel9Ideal.main_v0_5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_v0_5) = v5 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v31) = v0 c
          ∧ r.2.mem ((c.tc : Thread Cert.Reference9Ideal.nD Cert.Reference9Ideal.τ).loc Cert.Reference9Ideal.main_v32) = v1 c
          ∧ r.2.mem ((c.tc : Thread Cert.Reference9Ideal.nD Cert.Reference9Ideal.τ).loc Cert.Reference9Ideal.main_v33) = v2 c
          ∧ r.2.mem ((c.tc : Thread Cert.Reference9Ideal.nD Cert.Reference9Ideal.τ).loc Cert.Reference9Ideal.main_v34) = v3 c
          ∧ r.2.mem ((c.tc : Thread Cert.Reference9Ideal.nD Cert.Reference9Ideal.τ).loc Cert.Reference9Ideal.main_v35) = v4 c
          ∧ r.2.mem ((c.tc : Thread Cert.Reference9Ideal.nD Cert.Reference9Ideal.τ).loc Cert.Reference9Ideal.main_v36) = v5 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v15) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v5) = v2 c
          ∧ r.2.mem ((c.tc : Thread Cert.Reference17Ideal.nD Cert.Reference17Ideal.τ).loc Cert.Reference17Ideal.main_v11) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v27) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v12) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v12) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v27) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite.lean ====
abbrev S8192x2048 : Shape := ⟨2, ![8192, 2048]⟩
abbrev S8192x26624 : Shape := ⟨2, ![8192, 26624]⟩
abbrev S256x4096 : Shape := ⟨2, ![256, 4096]⟩
abbrev S8192x4096 : Shape := ⟨2, ![8192, 4096]⟩
abbrev S_ : Shape := ⟨0, ![]⟩

class Facts : Prop where
  slices_S8192x26624_S8192x4096_0_16384 : S8192x26624.Slices ![0, 16384] S8192x4096
  bcast_S_S8192x2048 : S_.BroadcastsInDim S8192x2048 (![] : Fin 0 → Fin S8192x2048.rank)
  bcast_S_S8192x4096 : S_.BroadcastsInDim S8192x4096 (![] : Fin 0 → Fin S8192x4096.rank)
  bitsLt_bf16_f32 : FTy.bits .bf16 < FTy.bits .f32
  bcast_S_S256x4096 : S_.BroadcastsInDim S256x4096 (![] : Fin 0 → Fin S256x4096.rank)

variable [Facts]

def fn {F : FTy → Type} [FloatOps F] (main_arg0 : FVec F S8192x2048 .f32) (main_arg1 : FVec F S8192x26624 .f32) (main_arg2 : FVec F S256x4096 .bf16) : IVec S8192x2048 1 × IVec S8192x4096 1 × IVec S256x4096 1 :=
  let main_v0 : FVec F S8192x4096 .f32 := (extractStridedSlice S8192x4096 ![0, 16384] · slices_S8192x26624_S8192x4096_0_16384) main_arg1
  let main_v1 : FVec F S8192x2048 .f32 := Host.absf main_arg0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8192x4096 .f32 := Host.absf main_v0
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_v7 : FVec F S256x4096 .f32 := (extf .f32 · bitsLt_bf16_f32) main_arg2
  let main_v8 : FVec F S256x4096 .f32 := Host.absf main_v7
  let main_cst_1 : FVec F S_ .f32 := constant S_ .f32 0x7F800000#32
  let main_v9 : FVec F S256x4096 .f32 := broadcastInDim S256x4096 ![] bcast_S_S256x4096 main_cst_1
  let main_v10 : IVec S256x4096 1 := cmpf .olt main_v8 main_v9
  (main_v3, main_v6, main_v10)
-- ==== Kernel.lean ====
abbrev S8192x2048 : Shape := ⟨2, ![8192, 2048]⟩
abbrev S8192x26624 : Shape := ⟨2, ![8192, 26624]⟩
abbrev S256x4096 : Shape := ⟨2, ![256, 4096]⟩
abbrev S256x2048 : Shape := ⟨2, ![256, 2048]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x26624, .f32⟩
  | .hbm, ⟨2, _⟩ => ⟨S256x4096, .bf16⟩
  | .hbm, ⟨3, _⟩ => ⟨S8192x2048, .bf16⟩
  | .hbm, ⟨4, _⟩ => ⟨S8192x2048, .bf16⟩
  | .hbm, ⟨5, _⟩ => ⟨S256x4096, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x4096, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x4096, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8192x2048 : Shape := ⟨2, ![8192, 2048]⟩
abbrev S8192x26624 : Shape := ⟨2, ![8192, 26624]⟩
abbrev S256x4096 : Shape := ⟨2, ![256, 4096]⟩
abbrev S256x2048 : Shape := ⟨2, ![256, 2048]⟩
abbrev S256x4x512 : Shape := ⟨3, ![256, 4, 512]⟩
abbrev S8192x4x512 : Shape := ⟨3, ![8192, 4, 512]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x512x8192 : Shape := ⟨3, ![4, 512, 8192]⟩
abbrev S4x512x256 : Shape := ⟨3, ![4, 512, 256]⟩
abbrev S4x256x512 : Shape := ⟨3, ![4, 256, 512]⟩
abbrev S4x8192x512 : Shape := ⟨3, ![4, 8192, 512]⟩

abbrev nBuf : Space → Nat
  | .hbm => 108
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x26624, .f32⟩
  | .hbm, ⟨2, _⟩ => ⟨S256x4096, .bf16⟩
  | .hbm, ⟨3, _⟩ => ⟨S8192x2048, .f32⟩
  | .hbm, ⟨4, _⟩ => ⟨S8192x2048, .f32⟩
  | .hbm, ⟨5, _⟩ => ⟨S256x4096, .f32⟩
  | .hbm, ⟨6, _⟩ => ⟨S256x2048, .f32⟩
  | .hbm, ⟨7, _⟩ => ⟨S256x2048, .f32⟩
  | .hbm, ⟨8, _⟩ => ⟨S256x4x512, .f32⟩
  | .hbm, ⟨9, _⟩ => ⟨S256x4x512, .f32⟩
  | .hbm, ⟨10, _⟩ => ⟨S8192x4x512, .f32⟩
  | .hbm, ⟨11, _⟩ => ⟨S4x8192x256, .f32⟩
  | .hbm, ⟨12, _⟩ => ⟨S_, .f32⟩
  | .hbm, ⟨13, _⟩ => ⟨S4x8192x256, .f32⟩
  | .hbm, ⟨14, _⟩ => ⟨S4x8192x256, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .i1⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S_, .f32⟩
  | .hbm, ⟨27, _⟩ => ⟨S4x8192, .f32⟩
  | .hbm, ⟨28, _⟩ => ⟨S4x8192, .i1⟩
  | .hbm, ⟨29, _⟩ => ⟨S_, .f32⟩
  | .hbm, ⟨30, _⟩ => ⟨S4x8192, .f32⟩
  | .hbm, ⟨31, _⟩ => ⟨S4x8192, .i1⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S4x8192, .f32⟩
  | .hbm, ⟨39, _⟩ => ⟨S4x8192, .f32⟩
  | .hbm, ⟨40, _⟩ => ⟨S4x8192x1, .f32⟩
  | .hbm, ⟨41, _⟩ => ⟨S4x8192x256, .f32⟩
  | .hbm, ⟨42, _⟩ => ⟨S4x8192x256, .f32⟩
  | .hbm, ⟨43, _⟩ => ⟨S4x8192x256, .f32⟩
  | .hbm, ⟨44, _⟩ => ⟨S_, .f32⟩
  | .hbm, ⟨45, _⟩ => ⟨S4x8192, .f32⟩
  | .hbm, ⟨46, _⟩ => ⟨S4x8192x1, .f32⟩
  | .hbm, ⟨47, _⟩ => ⟨S4x8192x256, .f32⟩
  | .hbm, ⟨48, _⟩ => ⟨S4x8192x256, .f32⟩
  | .hbm, ⟨49, _⟩ => ⟨S4x8192x1, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S4x512x8192, .f32⟩
  | .hbm, ⟨54, _⟩ => ⟨S8192x4x512, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192x2048, .f32⟩
  | .hbm, ⟨63, _⟩ => ⟨S8192x2048, .f32⟩
  | .hbm, ⟨64, _⟩ => ⟨S_, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x4x512, .f32⟩
  | .hbm, ⟨77, _⟩ => ⟨S4x512x8192, .f32⟩
  | .hbm, ⟨78, _⟩ => ⟨S4x8192x256, .f32⟩
  | .hbm, ⟨79, _⟩ => ⟨S4x512x256, .f32⟩
  | .hbm, ⟨80, _⟩ => ⟨S256x4x512, .f32⟩
  | .hbm, ⟨81, _⟩ => ⟨S4x8192x256, .f32⟩
  | .hbm, ⟨82, _⟩ => ⟨S4x8192x256, .f32⟩
  | .hbm, ⟨83, _⟩ => ⟨S4x8192x256, .f32⟩
  | .hbm, ⟨84, _⟩ => ⟨S_, .f32⟩
  | .hbm, ⟨85, _⟩ => ⟨S4x8192, .f32⟩
  | .hbm, ⟨86, _⟩ => ⟨S4x8192x1, .f32⟩
  | .hbm, ⟨87, _⟩ => ⟨S4x8192x1, .f32⟩
  | .hbm, ⟨88, _⟩ => ⟨S4x8192x256, .f32⟩
  | .hbm, ⟨89, _⟩ => ⟨S4x8192x256, .f32⟩
  | .hbm, ⟨90, _⟩ => ⟨S_, .f32⟩
  | .hbm, ⟨91, _⟩ => ⟨S4x8192, .f32⟩
  | .hbm, ⟨92, _⟩ => ⟨S4x8192x256, .f32⟩
  | .hbm, ⟨93, _⟩ => ⟨S4x8192x256, .f32⟩
  | .hbm, ⟨94, _⟩ => ⟨S4x8192x256, .f32⟩
  | .hbm, ⟨95, _⟩ => ⟨S_, .f32⟩
  | .hbm, ⟨96, _⟩ => ⟨S4x8192x256, .f32⟩
  | .hbm, ⟨97, _⟩ => ⟨S4x8192x256, .f32⟩
  | .hbm, ⟨98, _⟩ => ⟨S4x256x512, .f32⟩
  | .hbm, ⟨99, _⟩ => ⟨S256x4x512, .f32⟩
  | .hbm, ⟨100, _⟩ => ⟨S4x8192x512, .f32⟩
  | .hbm, ⟨101, _⟩ => ⟨S8192x4x512, .f32⟩
  | .hbm, ⟨102, _⟩ => ⟨S8192x2048, .f32⟩
  | .hbm, ⟨103, _⟩ => ⟨S256x2048, .f32⟩
  | .hbm, ⟨104, _⟩ => ⟨S256x2048, .f32⟩
  | .hbm, ⟨105, _⟩ => ⟨S256x4096, .f32⟩
  | .hbm, ⟨106, _⟩ => ⟨S8192x2048, .bf16⟩
  | .hbm, ⟨107, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_v42_2 : Ref sig .tc := ⟨.hbm, 63, rfl⟩
abbrev main_call0_cst_1 : Ref sig .tc := ⟨.hbm, 64, rfl⟩
abbrev main_call0_v6 : Ref sig .tc := ⟨.hbm, 65, rfl⟩
abbrev main_call0_v7 : Ref sig .tc := ⟨.hbm, 66, rfl⟩
abbrev main_v42_1 : Ref sig .tc := ⟨.hbm, 67, rfl⟩
abbrev main_v42_0 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_10 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_12 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩

abbrev nD : Nat := 1
abbrev τ : Topo := Topo.v7x

variable {F : FTy → Type} [FloatOps F]
-- ==== Kernel2.lean ====
abbrev S8192x26624 : Shape := ⟨2, ![8192, 26624]⟩
abbrev S2048x26624 : Shape := ⟨2, ![2048, 26624]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x26624, .bf16⟩
  | .hbm, ⟨1, _⟩ => ⟨S2048x26624, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x26624, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 13], ![false, false, false]⟩

def k0_cond3 (i : grid0.Coords) : BitVec 1 :=
  let arg2 : BitVec 32 := BitVec.ofNat 32 (i 2).val
  let c12_i32 : BitVec 32 := 12#32
  let v9 : BitVec 1 := Scalar.cmpi .eq arg2 c12_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x26624 : Shape := ⟨2, ![8192, 26624]⟩
abbrev S2048x26624 : Shape := ⟨2, ![2048, 26624]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x26624, .bf16⟩
  | .hbm, ⟨1, _⟩ => ⟨S2048x26624, .bf16⟩
  | .hbm, ⟨2, _⟩ => ⟨S2048x26624, .f32⟩
  | .hbm, ⟨3, _⟩ => ⟨S_, .f32⟩
  | .hbm, ⟨4, _⟩ => ⟨S8192x2048, .f32⟩
  | .hbm, ⟨5, _⟩ => ⟨S8192x26624, .f32⟩
  | .hbm, ⟨6, _⟩ => ⟨S8192x26624, .f32⟩
  | .hbm, ⟨7, _⟩ => ⟨S8192x2048, .f32⟩
  | _, _ => ⟨S8192x26624, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x2048 : Shape := ⟨2, ![8192, 2048]⟩
abbrev S8192x26624 : Shape := ⟨2, ![8192, 26624]⟩
abbrev S2048x26624 : Shape := ⟨2, ![2048, 26624]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x26624, .bf16⟩
  | .hbm, ⟨2, _⟩ => ⟨S2048x26624, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 26, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S8192x26624 : Shape := ⟨2, ![8192, 26624]⟩
abbrev S_ : Shape := ⟨0, ![]⟩
abbrev S2048x26624 : Shape := ⟨2, ![2048, 26624]⟩
abbrev S26624x2048 : Shape := ⟨2, ![26624, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x26624, .bf16⟩
  | .hbm, ⟨2, _⟩ => ⟨S8192x2048, .f32⟩
  | .hbm, ⟨3, _⟩ => ⟨S_, .f32⟩
  | .hbm, ⟨4, _⟩ => ⟨S2048x26624, .f32⟩
  | .hbm, ⟨5, _⟩ => ⟨S8192x26624, .f32⟩
  | .hbm, ⟨6, _⟩ => ⟨S8192x26624, .f32⟩
  | .hbm, ⟨7, _⟩ => ⟨S26624x2048, .f32⟩
  | .hbm, ⟨8, _⟩ => ⟨S2048x26624, .f32⟩
  | .hbm, ⟨9, _⟩ => ⟨S2048x26624, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x2048 : Shape := ⟨2, ![8192, 2048]⟩
abbrev S2048x26624 : Shape := ⟨2, ![2048, 26624]⟩
abbrev S8192x26624 : Shape := ⟨2, ![8192, 26624]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x26624, .bf16⟩
  | .hbm, ⟨2, _⟩ => ⟨S8192x26624, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 26, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S2048x26624 : Shape := ⟨2, ![2048, 26624]⟩
abbrev S8192x26624 : Shape := ⟨2, ![8192, 26624]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x26624, .bf16⟩
  | .hbm, ⟨2, _⟩ => ⟨S8192x2048, .f32⟩
  | .hbm, ⟨3, _⟩ => ⟨S2048x26624, .f32⟩
  | .hbm, ⟨4, _⟩ => ⟨S8192x26624, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S_, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel9.lean ====
abbrev S8192x2048 : Shape := ⟨2, ![8192, 2048]⟩
abbrev S8192x26624 : Shape := ⟨2, ![8192, 26624]⟩
abbrev S256x2048 : Shape := ⟨2, ![256, 2048]⟩

abbrev nBuf : Space → Nat
  | .hbm => 11
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x26624, .f32⟩
  | .hbm, ⟨5, _⟩ => ⟨S8192x2048, .bf16⟩
  | .hbm, ⟨6, _⟩ => ⟨S8192x2048, .bf16⟩
  | .hbm, ⟨7, _⟩ => ⟨S8192x2048, .bf16⟩
  | .hbm, ⟨8, _⟩ => ⟨S8192x2048, .bf16⟩
  | .hbm, ⟨9, _⟩ => ⟨S8192x2048, .bf16⟩
  | .hbm, ⟨10, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_6 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference9Ideal.lean ====
abbrev S8192x2048 : Shape := ⟨2, ![8192, 2048]⟩
abbrev S8192x26624 : Shape := ⟨2, ![8192, 26624]⟩
abbrev S8192x6144 : Shape := ⟨2, ![8192, 6144]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x26624, .f32⟩
  | .hbm, ⟨5, _⟩ => ⟨S8192x6144, .f32⟩
  | .hbm, ⟨6, _⟩ => ⟨S8192x6144, .f32⟩
  | .hbm, ⟨7, _⟩ => ⟨S8192x6144, .f32⟩
  | .hbm, ⟨8, _⟩ => ⟨S_, .f32⟩
  | .hbm, ⟨9, _⟩ => ⟨S8192x6144, .f32⟩
  | .hbm, ⟨10, _⟩ => ⟨S8192x6144, .f32⟩
  | .hbm, ⟨11, _⟩ => ⟨S_, .f32⟩
  | .hbm, ⟨12, _⟩ => ⟨S8192x6144, .f32⟩
  | .hbm, ⟨13, _⟩ => ⟨S8192x6144, .f32⟩
  | .hbm, ⟨14, _⟩ => ⟨S_, .f32⟩
  | .hbm, ⟨15, _⟩ => ⟨S8192x6144, .f32⟩
  | .hbm, ⟨16, _⟩ => ⟨S8192x6144, .f32⟩
  | .hbm, ⟨17, _⟩ => ⟨S8192x6144, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x6144, .f32⟩
  | .hbm, ⟨35, _⟩ => ⟨S8192x6144, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .bf16⟩
  | .hbm, ⟨40, _⟩ => ⟨S8192x2048, .bf16⟩
  | .hbm, ⟨41, _⟩ => ⟨S8192x2048, .bf16⟩
  | .hbm, ⟨42, _⟩ => ⟨S8192x2048, .bf16⟩
  | .hbm, ⟨43, _⟩ => ⟨S8192x2048, .bf16⟩
  | .hbm, ⟨44, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== Kernel10.lean ====
abbrev S256x4096 : Shape := ⟨2, ![256, 4096]⟩
abbrev S2048x4096 : Shape := ⟨2, ![2048, 4096]⟩
abbrev S256x2048 : Shape := ⟨2, ![256, 2048]⟩
abbrev S1024x2048 : Shape := ⟨2, ![1024, 2048]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S256x4096, .bf16⟩
  | .hbm, ⟨1, _⟩ => ⟨S2048x4096, .bf16⟩
  | .hbm, ⟨2, _⟩ => ⟨S256x2048, .f32⟩
  | .local _ .vmem, ⟨0, _⟩ => ⟨S256x2048, .bf16⟩
  | .local _ .vmem, ⟨1, _⟩ => ⟨S256x2048, .bf16⟩
  | .local _ .vmem, ⟨2, _⟩ => ⟨S1024x2048, .bf16⟩
  | .local _ .vmem, ⟨3, _⟩ => ⟨S1024x2048, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S256x4096 : Shape := ⟨2, ![256, 4096]⟩
abbrev S2048x4096 : Shape := ⟨2, ![2048, 4096]⟩
abbrev S_ : Shape := ⟨0, ![]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S2048x4096, .bf16⟩
  | .hbm, ⟨2, _⟩ => ⟨S2048x4096, .f32⟩
  | .hbm, ⟨3, _⟩ => ⟨S_, .f32⟩
  | .hbm, ⟨4, _⟩ => ⟨S256x2048, .f32⟩
  | .hbm, ⟨5, _⟩ => ⟨S256x4096, .f32⟩
  | .hbm, ⟨6, _⟩ => ⟨S256x4096, .f32⟩
  | .hbm, ⟨7, _⟩ => ⟨S256x2048, .f32⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S256x2048 : Shape := ⟨2, ![256, 2048]⟩
abbrev S256x4096 : Shape := ⟨2, ![256, 4096]⟩
abbrev S2048x4096 : Shape := ⟨2, ![2048, 4096]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x4096, .bf16⟩
  | .hbm, ⟨2, _⟩ => ⟨S2048x4096, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S256x2048 : Shape := ⟨2, ![256, 2048]⟩
abbrev S256x4096 : Shape := ⟨2, ![256, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x4096, .bf16⟩
  | .hbm, ⟨2, _⟩ => ⟨S256x2048, .f32⟩
  | .hbm, ⟨3, _⟩ => ⟨S_, .f32⟩
  | .hbm, ⟨4, _⟩ => ⟨S2048x4096, .f32⟩
  | .hbm, ⟨5, _⟩ => ⟨S256x4096, .f32⟩
  | .hbm, ⟨6, _⟩ => ⟨S256x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x128 : Shape := ⟨2, ![8192, 128]⟩
abbrev S2048x128 : Shape := ⟨2, ![2048, 128]⟩
abbrev S8192x2048 : Shape := ⟨2, ![8192, 2048]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .bf16⟩
  | .hbm, ⟨1, _⟩ => ⟨S2048x128, .bf16⟩
  | .hbm, ⟨2, _⟩ => ⟨S8192x2048, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x128 : Shape := ⟨2, ![8192, 128]⟩
abbrev S2048x128 : Shape := ⟨2, ![2048, 128]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S2048x128, .bf16⟩
  | .hbm, ⟨2, _⟩ => ⟨S2048x128, .f32⟩
  | .hbm, ⟨3, _⟩ => ⟨S_, .f32⟩
  | .hbm, ⟨4, _⟩ => ⟨S8192x2048, .f32⟩
  | .hbm, ⟨5, _⟩ => ⟨S8192x128, .f32⟩
  | .hbm, ⟨6, _⟩ => ⟨S8192x128, .f32⟩
  | .hbm, ⟨7, _⟩ => ⟨S8192x2048, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x2048 : Shape := ⟨2, ![8192, 2048]⟩
abbrev S8192x128 : Shape := ⟨2, ![8192, 128]⟩
abbrev S2048x128 : Shape := ⟨2, ![2048, 128]⟩
abbrev S2048x1024 : Shape := ⟨2, ![2048, 1024]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x128, .bf16⟩
  | .hbm, ⟨2, _⟩ => ⟨S2048x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S8192x128 : Shape := ⟨2, ![8192, 128]⟩
abbrev S_ : Shape := ⟨0, ![]⟩
abbrev S2048x128 : Shape := ⟨2, ![2048, 128]⟩
abbrev S128x2048 : Shape := ⟨2, ![128, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x128, .bf16⟩
  | .hbm, ⟨2, _⟩ => ⟨S8192x2048, .f32⟩
  | .hbm, ⟨3, _⟩ => ⟨S_, .f32⟩
  | .hbm, ⟨4, _⟩ => ⟨S2048x128, .f32⟩
  | .hbm, ⟨5, _⟩ => ⟨S8192x128, .f32⟩
  | .hbm, ⟨6, _⟩ => ⟨S8192x128, .f32⟩
  | .hbm, ⟨7, _⟩ => ⟨S128x2048, .f32⟩
  | .hbm, ⟨8, _⟩ => ⟨S2048x128, .f32⟩
  | .hbm, ⟨9, _⟩ => ⟨S2048x128, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S8192x2048 : Shape := ⟨2, ![8192, 2048]⟩
abbrev S8192x26624 : Shape := ⟨2, ![8192, 26624]⟩
abbrev S256x2048 : Shape := ⟨2, ![256, 2048]⟩

abbrev nBuf : Space → Nat
  | .hbm => 5
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x26624, .f32⟩
  | .hbm, ⟨4, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S8192x2048 : Shape := ⟨2, ![8192, 2048]⟩
abbrev S8192x26624 : Shape := ⟨2, ![8192, 26624]⟩
abbrev S8192x6144 : Shape := ⟨2, ![8192, 6144]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x26624, .f32⟩
  | .hbm, ⟨4, _⟩ => ⟨S8192x6144, .f32⟩
  | .hbm, ⟨5, _⟩ => ⟨S8192x6144, .f32⟩
  | .hbm, ⟨6, _⟩ => ⟨S8192x6144, .f32⟩
  | .hbm, ⟨7, _⟩ => ⟨S_, .f32⟩
  | .hbm, ⟨8, _⟩ => ⟨S8192x6144, .f32⟩
  | .hbm, ⟨9, _⟩ => ⟨S8192x6144, .f32⟩
  | .hbm, ⟨10, _⟩ => ⟨S_, .f32⟩
  | .hbm, ⟨11, _⟩ => ⟨S8192x6144, .f32⟩
  | .hbm, ⟨12, _⟩ => ⟨S8192x6144, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel15.lean ====
abbrev S256x2048 : Shape := ⟨2, ![256, 2048]⟩
abbrev S2048x4096 : Shape := ⟨2, ![2048, 4096]⟩
abbrev S256x4096 : Shape := ⟨2, ![256, 4096]⟩
abbrev S2048x1024 : Shape := ⟨2, ![2048, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x4096, .bf16⟩
  | .hbm, ⟨2, _⟩ => ⟨S256x4096, .bf16⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S256x2048 : Shape := ⟨2, ![256, 2048]⟩
abbrev S2048x4096 : Shape := ⟨2, ![2048, 4096]⟩
abbrev S256x4096 : Shape := ⟨2, ![256, 4096]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x4096, .bf16⟩
  | .hbm, ⟨2, _⟩ => ⟨S256x2048, .f32⟩
  | .hbm, ⟨3, _⟩ => ⟨S2048x4096, .f32⟩
  | .hbm, ⟨4, _⟩ => ⟨S256x4096, .f32⟩
  | .hbm, ⟨5, _⟩ => ⟨S256x4096, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S8192x2048 : Shape := ⟨2, ![8192, 2048]⟩
abbrev S2048x128 : Shape := ⟨2, ![2048, 128]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2048 : Shape := ⟨2, ![8192, 2048]⟩
abbrev S2048x128 : Shape := ⟨2, ![2048, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x2048, .f32⟩
  | .hbm, ⟨3, _⟩ => ⟨S2048x128, .f32⟩
  | .hbm, ⟨4, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S8x8x2048 : Shape := ⟨3, ![8, 8, 2048]⟩
abbrev S8x2048 : Shape := ⟨2, ![8, 2048]⟩
abbrev S1x8x2048 : Shape := ⟨3, ![1, 8, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8x8x2048, .f32⟩
  | .hbm, ⟨1, _⟩ => ⟨S8x2048, .f32⟩
  | .hbm, ⟨2, _⟩ => ⟨S8x2048, .f32⟩
  | .hbm, ⟨3, _⟩ => ⟨S8x2048, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S8x2048, .f32⟩
  | .local _ .vmem, ⟨0, _⟩ => ⟨S8x8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S8x8x2048 : Shape := ⟨3, ![8, 8, 2048]⟩
abbrev S8x2048 : Shape := ⟨2, ![8, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x2048, .f32⟩
  | .hbm, ⟨1, _⟩ => ⟨S8x2048, .f32⟩
  | .hbm, ⟨2, _⟩ => ⟨S8x2048, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S_, .f32⟩
  | .hbm, ⟨18, _⟩ => ⟨S8x2048, .f32⟩
  | .hbm, ⟨19, _⟩ => ⟨S8x2048, .f32⟩
  | .hbm, ⟨20, _⟩ => ⟨S8x2048, .f32⟩
  | .hbm, ⟨21, _⟩ => ⟨S_, .f32⟩
  | .hbm, ⟨22, _⟩ => ⟨S8x2048, .f32⟩
  | .hbm, ⟨23, _⟩ => ⟨S8x2048, .f32⟩
  | .hbm, ⟨24, _⟩ => ⟨S_, .f32⟩
  | .hbm, ⟨25, _⟩ => ⟨S8x2048, .f32⟩
  | .hbm, ⟨26, _⟩ => ⟨S8x2048, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .f32⟩
  | .hbm, ⟨31, _⟩ => ⟨S8x2048, .f32⟩
  | .hbm, ⟨32, _⟩ => ⟨S_, .f32⟩
  | .hbm, ⟨33, _⟩ => ⟨S8x2048, .f32⟩
  | .hbm, ⟨34, _⟩ => ⟨S8x2048, .f32⟩
  | .hbm, ⟨35, _⟩ => ⟨S8x2048, .f32⟩
  | .hbm, ⟨36, _⟩ => ⟨S_, .f32⟩
  | .hbm, ⟨37, _⟩ => ⟨S8x2048, .f32⟩
  | .hbm, ⟨38, _⟩ => ⟨S8x2048, .f32⟩
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel18.lean ====
abbrev S8x4x1024 : Shape := ⟨3, ![8, 4, 1024]⟩
abbrev S4x1024 : Shape := ⟨2, ![4, 1024]⟩
abbrev S1x4x1024 : Shape := ⟨3, ![1, 4, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .local _ .vmem, ⟨0, _⟩ => ⟨S8x4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024, .f32⟩
  | _, _ => ⟨S8x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference18Ideal.lean ====
abbrev S8x4x1024 : Shape := ⟨3, ![8, 4, 1024]⟩
abbrev S4x1024 : Shape := ⟨2, ![4, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S_, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S_, .f32⟩
  | .hbm, ⟨18, _⟩ => ⟨S4x1024, .f32⟩
  | .hbm, ⟨19, _⟩ => ⟨S4x1024, .f32⟩
  | .hbm, ⟨20, _⟩ => ⟨S4x1024, .f32⟩
  | .hbm, ⟨21, _⟩ => ⟨S_, .f32⟩
  | .hbm, ⟨22, _⟩ => ⟨S4x1024, .f32⟩
  | .hbm, ⟨23, _⟩ => ⟨S4x1024, .f32⟩
  | .hbm, ⟨24, _⟩ => ⟨S_, .f32⟩
  | .hbm, ⟨25, _⟩ => ⟨S4x1024, .f32⟩
  | .hbm, ⟨26, _⟩ => ⟨S4x1024, .f32⟩
  | .hbm, ⟨27, _⟩ => ⟨S4x1024, .f32⟩
  | .hbm, ⟨28, _⟩ => ⟨S_, .f32⟩
  | .hbm, ⟨29, _⟩ => ⟨S4x1024, .f32⟩
  | .hbm, ⟨30, _⟩ => ⟨S4x1024, .f32⟩
  | .hbm, ⟨31, _⟩ => ⟨S4x1024, .f32⟩
  | .hbm, ⟨32, _⟩ => ⟨S_, .f32⟩
  | .hbm, ⟨33, _⟩ => ⟨S4x1024, .f32⟩
  | .hbm, ⟨34, _⟩ => ⟨S4x1024, .f32⟩
  | .hbm, ⟨35, _⟩ => ⟨S4x1024, .f32⟩
  | .hbm, ⟨36, _⟩ => ⟨S_, .f32⟩
  | .hbm, ⟨37, _⟩ => ⟨S4x1024, .f32⟩
  | .hbm, ⟨38, _⟩ => ⟨S4x1024, .f32⟩
  | _, _ => ⟨S8x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel19.lean ====
abbrev S8x31x512 : Shape := ⟨3, ![8, 31, 512]⟩
abbrev S31x512 : Shape := ⟨2, ![31, 512]⟩
abbrev S1x31x512 : Shape := ⟨3, ![1, 31, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x31x512, .f32⟩
  | .hbm, ⟨1, _⟩ => ⟨S31x512, .f32⟩
  | .hbm, ⟨2, _⟩ => ⟨S31x512, .f32⟩
  | .hbm, ⟨3, _⟩ => ⟨S31x512, .f32⟩
  | .hbm, ⟨4, _⟩ => ⟨S31x512, .f32⟩
  | .hbm, ⟨5, _⟩ => ⟨S31x512, .f32⟩
  | .hbm, ⟨6, _⟩ => ⟨S31x512, .f32⟩
  | .hbm, ⟨7, _⟩ => ⟨S31x512, .f32⟩
  | .local _ .vmem, ⟨0, _⟩ => ⟨S8x31x512, .f32⟩
  | .local _ .vmem, ⟨1, _⟩ => ⟨S31x512, .f32⟩
  | .local _ .vmem, ⟨2, _⟩ => ⟨S31x512, .f32⟩
  | .local _ .vmem, ⟨3, _⟩ => ⟨S31x512, .f32⟩
  | .local _ .vmem, ⟨4, _⟩ => ⟨S31x512, .f32⟩
  | .local _ .vmem, ⟨5, _⟩ => ⟨S31x512, .f32⟩
  | .local _ .vmem, ⟨6, _⟩ => ⟨S31x512, .f32⟩
  | .local _ .vmem, ⟨7, _⟩ => ⟨S31x512, .f32⟩
  | _, _ => ⟨S8x31x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x31x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S31x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S8x31x512 : Shape := ⟨3, ![8, 31, 512]⟩
abbrev S31x512 : Shape := ⟨2, ![31, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x31x512, .f32⟩
  | .hbm, ⟨1, _⟩ => ⟨S31x512, .f32⟩
  | .hbm, ⟨2, _⟩ => ⟨S31x512, .f32⟩
  | .hbm, ⟨3, _⟩ => ⟨S31x512, .f32⟩
  | .hbm, ⟨4, _⟩ => ⟨S_, .f32⟩
  | .hbm, ⟨5, _⟩ => ⟨S31x512, .f32⟩
  | .hbm, ⟨6, _⟩ => ⟨S_, .f32⟩
  | .hbm, ⟨7, _⟩ => ⟨S31x512, .f32⟩
  | .hbm, ⟨8, _⟩ => ⟨S31x512, .f32⟩
  | .hbm, ⟨9, _⟩ => ⟨S_, .f32⟩
  | .hbm, ⟨10, _⟩ => ⟨S31x512, .f32⟩
  | .hbm, ⟨11, _⟩ => ⟨S31x512, .f32⟩
  | .hbm, ⟨12, _⟩ => ⟨S31x512, .f32⟩
  | .hbm, ⟨13, _⟩ => ⟨S_, .f32⟩
  | .hbm, ⟨14, _⟩ => ⟨S31x512, .f32⟩
  | .hbm, ⟨15, _⟩ => ⟨S31x512, .f32⟩
  | .hbm, ⟨16, _⟩ => ⟨S31x512, .f32⟩
  | .hbm, ⟨17, _⟩ => ⟨S_, .f32⟩
  | .hbm, ⟨18, _⟩ => ⟨S31x512, .f32⟩
  | .hbm, ⟨19, _⟩ => ⟨S31x512, .f32⟩
  | .hbm, ⟨20, _⟩ => ⟨S31x512, .f32⟩
  | .hbm, ⟨21, _⟩ => ⟨S_, .f32⟩
  | .hbm, ⟨22, _⟩ => ⟨S31x512, .f32⟩
  | .hbm, ⟨23, _⟩ => ⟨S31x512, .f32⟩
  | .hbm, ⟨24, _⟩ => ⟨S_, .f32⟩
  | .hbm, ⟨25, _⟩ => ⟨S31x512, .f32⟩
  | .hbm, ⟨26, _⟩ => ⟨S31x512, .f32⟩
  | .hbm, ⟨27, _⟩ => ⟨S31x512, .f32⟩
  | .hbm, ⟨28, _⟩ => ⟨S_, .f32⟩
  | .hbm, ⟨29, _⟩ => ⟨S31x512, .f32⟩
  | .hbm, ⟨30, _⟩ => ⟨S31x512, .f32⟩
  | .hbm, ⟨31, _⟩ => ⟨S31x512, .f32⟩
  | .hbm, ⟨32, _⟩ => ⟨S_, .f32⟩
  | .hbm, ⟨33, _⟩ => ⟨S31x512, .f32⟩
  | .hbm, ⟨34, _⟩ => ⟨S31x512, .f32⟩
  | .hbm, ⟨35, _⟩ => ⟨S31x512, .f32⟩
  | .hbm, ⟨36, _⟩ => ⟨S_, .f32⟩
  | .hbm, ⟨37, _⟩ => ⟨S31x512, .f32⟩
  | .hbm, ⟨38, _⟩ => ⟨S31x512, .f32⟩
  | _, _ => ⟨S8x31x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel20.lean ====
abbrev S1024x6658 : Shape := ⟨2, ![1024, 6658]⟩
abbrev S2048x6658 : Shape := ⟨2, ![2048, 6658]⟩
abbrev S32x6658 : Shape := ⟨2, ![32, 6658]⟩

abbrev nBuf : Space → Nat
  | .hbm => 9
  | .vmem => 18
  | .smem => 0
  | _ => 0

abbrev bufTy : (tb : Table) → Fin (tcTables nBuf tb) → BufTy
  | .hbm, ⟨0, _⟩ => ⟨S1024x6658, .f32⟩
  | .hbm, ⟨1, _⟩ => ⟨S1024x6658, .f32⟩
  | .hbm, ⟨2, _⟩ => ⟨S2048x6658, .f32⟩
  | .hbm, ⟨3, _⟩ => ⟨S2048x6658, .f32⟩
  | .hbm, ⟨4, _⟩ => ⟨S2048x6658, .f32⟩
  | .hbm, ⟨5, _⟩ => ⟨S2048x6658, .f32⟩
  | .hbm, ⟨6, _⟩ => ⟨S2048x6658, .f32⟩
  | .hbm, ⟨7, _⟩ => ⟨S2048x6658, .f32⟩
  | .hbm, ⟨8, _⟩ => ⟨S2048x6658, .f32⟩
  | .local _ .vmem, ⟨0, _⟩ => ⟨S32x6658, .f32⟩
  | .local _ .vmem, ⟨1, _⟩ => ⟨S32x6658, .f32⟩
  | .local _ .vmem, ⟨2, _⟩ => ⟨S32x6658, .f32⟩
  | .local _ .vmem, ⟨3, _⟩ => ⟨S32x6658, .f32⟩
  | .local _ .vmem, ⟨4, _⟩ => ⟨S32x6658, .f32⟩
  | .local _ .vmem, ⟨5, _⟩ => ⟨S32x6658, .f32⟩
  | .local _ .vmem, ⟨6, _⟩ => ⟨S32x6658, .f32⟩
  | .local _ .vmem, ⟨7, _⟩ => ⟨S32x6658, .f32⟩
  | .local _ .vmem, ⟨8, _⟩ => ⟨S32x6658, .f32⟩
  | .local _ .vmem, ⟨9, _⟩ => ⟨S32x6658, .f32⟩
  | .local _ .vmem, ⟨10, _⟩ => ⟨S32x6658, .f32⟩
  | .local _ .vmem, ⟨11, _⟩ => ⟨S32x6658, .f32⟩
  | .local _ .vmem, ⟨12, _⟩ => ⟨S32x6658, .f32⟩
  | .local _ .vmem, ⟨13, _⟩ => ⟨S32x6658, .f32⟩
  | .local _ .vmem, ⟨14, _⟩ => ⟨S32x6658, .f32⟩
  | .local _ .vmem, ⟨15, _⟩ => ⟨S32x6658, .f32⟩
  | .local _ .vmem, ⟨16, _⟩ => ⟨S32x6658, .f32⟩
  | .local _ .vmem, ⟨17, _⟩ => ⟨S32x6658, .f32⟩
  | _, _ => ⟨S1024x6658, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S32x6658 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S32x6658 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x6658 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x6658 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x6658 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x6658 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x6658 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x6658 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x6658 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference20Ideal.lean ====
abbrev S1024x6658 : Shape := ⟨2, ![1024, 6658]⟩
abbrev S2048x6658 : Shape := ⟨2, ![2048, 6658]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x6658, .f32⟩
  | .hbm, ⟨1, _⟩ => ⟨S1024x6658, .f32⟩
  | .hbm, ⟨2, _⟩ => ⟨S2048x6658, .f32⟩
  | .hbm, ⟨3, _⟩ => ⟨S2048x6658, .f32⟩
  | .hbm, ⟨4, _⟩ => ⟨S2048x6658, .f32⟩
  | .hbm, ⟨5, _⟩ => ⟨S2048x6658, .f32⟩
  | .hbm, ⟨6, _⟩ => ⟨S_, .f32⟩
  | .hbm, ⟨7, _⟩ => ⟨S2048x6658, .f32⟩
  | .hbm, ⟨8, _⟩ => ⟨S2048x6658, .f32⟩
  | .hbm, ⟨9, _⟩ => ⟨S_, .f32⟩
  | .hbm, ⟨10, _⟩ => ⟨S2048x6658, .f32⟩
  | .hbm, ⟨11, _⟩ => ⟨S2048x6658, .f32⟩
  | .hbm, ⟨12, _⟩ => ⟨S2048x6658, .f32⟩
  | .hbm, ⟨13, _⟩ => ⟨S_, .f32⟩
  | .hbm, ⟨14, _⟩ => ⟨S2048x6658, .f32⟩
  | .hbm, ⟨15, _⟩ => ⟨S2048x6658, .f32⟩
  | .hbm, ⟨16, _⟩ => ⟨S2048x6658, .f32⟩
  | .hbm, ⟨17, _⟩ => ⟨S_, .f32⟩
  | .hbm, ⟨18, _⟩ => ⟨S2048x6658, .f32⟩
  | .hbm, ⟨19, _⟩ => ⟨S2048x6658, .f32⟩
  | .hbm, ⟨20, _⟩ => ⟨S2048x6658, .f32⟩
  | .hbm, ⟨21, _⟩ => ⟨S_, .f32⟩
  | .hbm, ⟨22, _⟩ => ⟨S2048x6658, .f32⟩
  | .hbm, ⟨23, _⟩ => ⟨S2048x6658, .f32⟩
  | .hbm, ⟨24, _⟩ => ⟨S_, .f32⟩
  | .hbm, ⟨25, _⟩ => ⟨S2048x6658, .f32⟩
  | .hbm, ⟨26, _⟩ => ⟨S2048x6658, .f32⟩
  | .hbm, ⟨27, _⟩ => ⟨S2048x6658, .f32⟩
  | .hbm, ⟨28, _⟩ => ⟨S_, .f32⟩
  | .hbm, ⟨29, _⟩ => ⟨S2048x6658, .f32⟩
  | .hbm, ⟨30, _⟩ => ⟨S2048x6658, .f32⟩
  | .hbm, ⟨31, _⟩ => ⟨S2048x6658, .f32⟩
  | .hbm, ⟨32, _⟩ => ⟨S_, .f32⟩
  | .hbm, ⟨33, _⟩ => ⟨S2048x6658, .f32⟩
  | .hbm, ⟨34, _⟩ => ⟨S2048x6658, .f32⟩
  | .hbm, ⟨35, _⟩ => ⟨S2048x6658, .f32⟩
  | .hbm, ⟨36, _⟩ => ⟨S_, .f32⟩
  | .hbm, ⟨37, _⟩ => ⟨S2048x6658, .f32⟩
  | .hbm, ⟨38, _⟩ => ⟨S2048x6658, .f32⟩
  | _, _ => ⟨S1024x6658, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S256x2048 : Shape := ⟨2, ![256, 2048]⟩
abbrev S512x2048 : Shape := ⟨2, ![512, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference21Ideal.lean ====
abbrev S256x2048 : Shape := ⟨2, ![256, 2048]⟩
abbrev S512x2048 : Shape := ⟨2, ![512, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S_, .f32⟩
  | .hbm, ⟨7, _⟩ => ⟨S512x2048, .f32⟩
  | .hbm, ⟨8, _⟩ => ⟨S512x2048, .f32⟩
  | .hbm, ⟨9, _⟩ => ⟨S_, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S_, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S_, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S512x2048, .f32⟩
  | .hbm, ⟨38, _⟩ => ⟨S512x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel22.lean ====
abbrev S1024x1024 : Shape := ⟨2, ![1024, 1024]⟩
abbrev S2048x1024 : Shape := ⟨2, ![2048, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference22Ideal.lean ====
abbrev S1024x1024 : Shape := ⟨2, ![1024, 1024]⟩
abbrev S2048x1024 : Shape := ⟨2, ![2048, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S8192x26624 : Shape := ⟨2, ![8192, 26624]⟩
abbrev S256x4096 : Shape := ⟨2, ![256, 4096]⟩
abbrev S8192x2048 : Shape := ⟨2, ![8192, 2048]⟩
abbrev S256x2048 : Shape := ⟨2, ![256, 2048]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 3
  | .vmem => 7
  | .smem => 0
  | _ => 0

abbrev bufTy : (tb : Table) → Fin (tcTables nBuf tb) → BufTy
  | .hbm, ⟨0, _⟩ => ⟨S8192x26624, .f32⟩
  | .hbm, ⟨1, _⟩ => ⟨S256x4096, .bf16⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x4096, .bf16⟩
  | .local _ .vmem, ⟨5, _⟩ => ⟨S256x2048, .bf16⟩
  | .local _ .vmem, ⟨6, _⟩ => ⟨S256x2048, .bf16⟩
  | _, _ => ⟨S8192x26624, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference23Ideal.lean ====
abbrev S8192x26624 : Shape := ⟨2, ![8192, 26624]⟩
abbrev S256x4096 : Shape := ⟨2, ![256, 4096]⟩
abbrev S8192x2048 : Shape := ⟨2, ![8192, 2048]⟩
abbrev S256x2048 : Shape := ⟨2, ![256, 2048]⟩
abbrev S256x4x512 : Shape := ⟨3, ![256, 4, 512]⟩
abbrev S8192x4x512 : Shape := ⟨3, ![8192, 4, 512]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x512x8192 : Shape := ⟨3, ![4, 512, 8192]⟩

abbrev nBuf : Space → Nat
  | .hbm => 42
  | .vmem => 0
  | .smem => 0
  | _ => 0

abbrev bufTy : (tb : Table) → Fin (tcTables nBuf tb) → BufTy
  | .hbm, ⟨0, _⟩ => ⟨S8192x26624, .f32⟩
  | .hbm, ⟨1, _⟩ => ⟨S256x4096, .bf16⟩
  | .hbm, ⟨2, _⟩ => ⟨S8192x2048, .f32⟩
  | .hbm, ⟨3, _⟩ => ⟨S8192x2048, .f32⟩
  | .hbm, ⟨4, _⟩ => ⟨S256x4096, .f32⟩
  | .hbm, ⟨5, _⟩ => ⟨S256x2048, .f32⟩
  | .hbm, ⟨6, _⟩ => ⟨S256x2048, .f32⟩
  | .hbm, ⟨7, _⟩ => ⟨S256x4x512, .f32⟩
  | .hbm, ⟨8, _⟩ => ⟨S256x4x512, .f32⟩
  | .hbm, ⟨9, _⟩ => ⟨S8192x4x512, .f32⟩
  | .hbm, ⟨10, _⟩ => ⟨S4x8192x256, .f32⟩
  | .hbm, ⟨11, _⟩ => ⟨S_, .f32⟩
  | .hbm, ⟨12, _⟩ => ⟨S4x8192x256, .f32⟩
  | .hbm, ⟨13, _⟩ => ⟨S4x8192x256, .f32⟩
  | .hbm, ⟨14, _⟩ => ⟨S_, .f32⟩
  | .hbm, ⟨15, _⟩ => ⟨S4x8192, .f32⟩
  | .hbm, ⟨16, _⟩ => ⟨S_, .f32⟩
  | .hbm, ⟨17, _⟩ => ⟨S4x8192, .f32⟩
  | .hbm, ⟨18, _⟩ => ⟨S4x8192, .f32⟩
  | .hbm, ⟨19, _⟩ => ⟨S4x8192x1, .f32⟩
  | .hbm, ⟨20, _⟩ => ⟨S4x8192x256, .f32⟩
  | .hbm, ⟨21, _⟩ => ⟨S4x8192x256, .f32⟩
  | .hbm, ⟨22, _⟩ => ⟨S4x8192x256, .f32⟩
  | .hbm, ⟨23, _⟩ => ⟨S_, .f32⟩
  | .hbm, ⟨24, _⟩ => ⟨S4x8192, .f32⟩
  | .hbm, ⟨25, _⟩ => ⟨S4x8192x1, .f32⟩
  | .hbm, ⟨26, _⟩ => ⟨S4x8192x256, .f32⟩
  | .hbm, ⟨27, _⟩ => ⟨S4x8192x256, .f32⟩
  | .hbm, ⟨28, _⟩ => ⟨S4x512x8192, .f32⟩
  | .hbm, ⟨29, _⟩ => ⟨S8192x4x512, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .bf16⟩
  | _, _ => ⟨S8192x26624, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel24.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference24Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel25.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference25Ideal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel26.lean ====
abbrev S8192x2048 : Shape := ⟨2, ![8192, 2048]⟩
abbrev S8192x26624 : Shape := ⟨2, ![8192, 26624]⟩
abbrev S1x2048 : Shape := ⟨2, ![1, 2048]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S1x512 : Shape := ⟨2, ![1, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x26624, .f32⟩
  | .hbm, ⟨2, _⟩ => ⟨S1x2048, .f32⟩
  | .hbm, ⟨3, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference26Ideal.lean ====
abbrev S8192x2048 : Shape := ⟨2, ![8192, 2048]⟩
abbrev S8192x26624 : Shape := ⟨2, ![8192, 26624]⟩
abbrev S1x2048 : Shape := ⟨2, ![1, 2048]⟩
abbrev S_ : Shape := ⟨0, ![]⟩
abbrev S8192x4x512 : Shape := ⟨3, ![8192, 4, 512]⟩
abbrev S4x512 : Shape := ⟨2, ![4, 512]⟩
abbrev S8192x4 : Shape := ⟨2, ![8192, 4]⟩
abbrev S8192x4x1 : Shape := ⟨3, ![8192, 4, 1]⟩
abbrev S1x4x512 : Shape := ⟨3, ![1, 4, 512]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x26624, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x4x512, .f32⟩
  | .hbm, ⟨15, _⟩ => ⟨S4x512, .f32⟩
  | .hbm, ⟨16, _⟩ => ⟨S8192x4x512, .f32⟩
  | .hbm, ⟨17, _⟩ => ⟨S_, .f32⟩
  | .hbm, ⟨18, _⟩ => ⟨S8192x4, .f32⟩
  | .hbm, ⟨19, _⟩ => ⟨S8192x4x1, .f32⟩
  | .hbm, ⟨20, _⟩ => ⟨S_, .f32⟩
  | .hbm, ⟨21, _⟩ => ⟨S8192x4x1, .f32⟩
  | .hbm, ⟨22, _⟩ => ⟨S8192x4x1, .f32⟩
  | .hbm, ⟨23, _⟩ => ⟨S_, .f32⟩
  | .hbm, ⟨24, _⟩ => ⟨S8192x4x1, .f32⟩
  | .hbm, ⟨25, _⟩ => ⟨S8192x4x1, .f32⟩
  | .hbm, ⟨26, _⟩ => ⟨S8192x4x1, .f32⟩
  | .hbm, ⟨27, _⟩ => ⟨S8192x4x512, .f32⟩
  | .hbm, ⟨28, _⟩ => ⟨S8192x4x512, .f32⟩
  | .hbm, ⟨29, _⟩ => ⟨S1x4x512, .f32⟩
  | .hbm, ⟨30, _⟩ => ⟨S8192x4x512, .f32⟩
  | .hbm, ⟨31, _⟩ => ⟨S8192x4x512, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Proof.Row.lean ====
module
public import Idealize.ShloMosaic.Lib.Pointwise

/-! The gradient of one head's attention for one query row, as the kernel computes it: formulas over extended reals. -/

@[expose] public section
set_option maxRecDepth 16384
noncomputable section
open Idealize.ShloMosaic Idealize.ShloMosaic.TcCoe Idealize.SL.Sem
namespace Cert.AttnRow

/-- The scale of the scores. -/
def scl : EReal := Ideal.ofBits .f32 1026884851#32
/-- Where the row maximum starts. -/
def lowest : EReal := Ideal.ofBits .f32 4286578688#32
/-- The scaled score of a query row with memory token `m`. -/
def score (q : Fin 512 → EReal) (k : Fin 256 → Fin 512 → EReal) (m : Fin 256) : EReal := (∑ x, q x * k m x) * scl
/-- The largest score of the row. -/
def top (q : Fin 512 → EReal) (k : Fin 256 → Fin 512 → EReal) : EReal := Finset.fold max lowest (score q k) Finset.univ
/-- The exponential of a score less the largest. -/
def ex (q : Fin 512 → EReal) (k : Fin 256 → Fin 512 → EReal) (m : Fin 256) : EReal := Ideal.exp (score q k m - top q k)
/-- The row's attention. -/
def prob (q : Fin 512 → EReal) (k : Fin 256 → Fin 512 → EReal) (m : Fin 256) : EReal := Ideal.div (ex q k m) (∑ n, ex q k n)
/-- The logistic function. -/
def sg (z : EReal) : EReal := Ideal.logistic z
/-- The gradient into the attention's output. -/
def gated (d z : Fin 512 → EReal) (x : Fin 512) : EReal := d x * (z x * sg (z x))
/-- The gradient into the attention. -/
def dprob (v : Fin 256 → Fin 512 → EReal) (d z : Fin 512 → EReal) (m : Fin 256) : EReal := ∑ x, gated d z x * v m x
/-- The gradient into the unscaled scores. -/
def dscore (q : Fin 512 → EReal) (k v : Fin 256 → Fin 512 → EReal) (d z : Fin 512 → EReal) (m : Fin 256) : EReal :=
  prob q k m * (dprob v d z m - ∑ n, prob q k n * dprob v d z n) * scl
/-- A row's gradient into the query. -/
def rowQ (q : Fin 512 → EReal) (k v : Fin 256 → Fin 512 → EReal) (d z : Fin 512 → EReal) (x : Fin 512) : EReal :=
  ∑ m, dscore q k v d z m * k m x
/-- A row's gradient into the gate. -/
def rowZ (q : Fin 512 → EReal) (k v : Fin 256 → Fin 512 → EReal) (d z : Fin 512 → EReal) (x : Fin 512) : EReal :=
  (d x * ∑ m, prob q k m * v m x) * (sg (z x) * (1 + z x * (1 - sg (z x))))

/-! The rows and matrices of a head in the whole arrays. -/

section Arrays
variable (D : Fin 8192 → Fin 2048 → EReal) (P : Fin 8192 → Fin 26624 → EReal) (KV : Fin 256 → Fin 4096 → EReal)
variable (h : Fin 4) (s : Fin 8192)

/-- Row `s` of head `h` of the incoming gradient. -/
def dRow : Fin 512 → EReal := fun x => D s ⟨512 * h.val + x.val, by omega⟩
/-- Row `s` of head `h` of the query. -/
def qRow : Fin 512 → EReal := fun x => P s ⟨16384 + 512 * h.val + x.val, by omega⟩
/-- Row `s` of head `h` of the gate. -/
def zRow : Fin 512 → EReal := fun x => P s ⟨18432 + 512 * h.val + x.val, by omega⟩
/-- The keys of head `h`. -/
def kMat : Fin 256 → Fin 512 → EReal := fun m x => KV m ⟨512 * h.val + x.val, by omega⟩
/-- The values of head `h`. -/
def vMat : Fin 256 → Fin 512 → EReal := fun m x => KV m ⟨2048 + 512 * h.val + x.val, by omega⟩
/-- The gradient into the query. -/
def outQ (x : Fin 512) : EReal := rowQ (qRow P h s) (kMat KV h) (vMat KV h) (dRow D h s) (zRow P h s) x
/-- The gradient into the gate. -/
def outZ (x : Fin 512) : EReal := rowZ (qRow P h s) (kMat KV h) (vMat KV h) (dRow D h s) (zRow P h s) x
/-- A row's share of the gradient into the keys. -/
def partK (m : Fin 256) (x : Fin 512) : EReal :=
  dscore (qRow P h s) (kMat KV h) (vMat KV h) (dRow D h s) (zRow P h s) m * qRow P h s x
/-- A row's share of the gradient into the values. -/
def partV (m : Fin 256) (x : Fin 512) : EReal := prob (qRow P h s) (kMat KV h) m * gated (dRow D h s) (zRow P h s) x

/-- The head of a column of four heads. -/
def head (n : ℕ) : Fin 4 := ⟨n / 512 % 4, by omega⟩
/-- The place of a column in its head. -/
def lane (n : ℕ) : Fin 512 := ⟨n % 512, by omega⟩
/-- A row's share of the gradient into the memory: the keys' columns, then the values'. -/
def part (m : Fin 256) (n : ℕ) : EReal :=
  if n < 2048 then partK D P KV (head n) s m (lane n) else partV D P KV (head n) s m (lane n)
end Arrays

end Cert.AttnRow
end
-- ==== Proof.Pay.lean ====
module
public import proofs.«01_k».proof.Proof.Row
public import proofs.«01_k».proof.Proof.Gen.KernelIdeal.Value
public import Idealize.ShloMosaic.Lib.Pipeline.ValueKit
public import Idealize.ShloMosaic.Lib.Pointwise

/-! What the kernel's body stores, read at an index: the four heads' stores are the same formulas of their own tiles. -/

@[expose] public section
set_option maxRecDepth 16384
noncomputable section
open Idealize.ShloMosaic Idealize.ShloMosaic.TcCoe Idealize.SL.Sem
namespace Cert.KernelIdeal.Pay
open Cert.KernelIdeal Cert.KernelIdeal.Gen Cert.AttnRow

/-- Row `r` of a tile. -/
def row (a : FVec Ideal S256x512 .f32) (r : Fin 256) : Fin 512 → EReal := fun x => a (ix2 r x)
/-- A tile of the memory as a matrix. -/
def mat (a : FVec Ideal S256x512 .bf16) : Fin 256 → Fin 512 → EReal := fun r x => a (ix2 r x)

variable (q z d a : FVec Ideal S256x512 .f32) (k v : FVec Ideal S256x512 .bf16) (r : Fin 256) (x : Fin 512)

/-- Head 0's store into the gradient of the query. -/
theorem q0 : (k0_pay11 (F := Ideal) k v (k0_pay6 q k) (k0_pay8 z d) (ix2 r x) : EReal) = rowQ (row q r) (mat k) (mat v) (row d r) (row z r) x := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row, mat, scl, lowest, score, top, ex, prob, sg, gated, dprob, dscore, rowQ, rowZ]
/-- Head 1's store into the gradient of the query. -/
theorem q1 : (k0_pay20 (F := Ideal) k v (k0_pay14 q k) (FloatOps.ofBits FTy.f32 1026884851#32) z d (ix2 r x) : EReal) = rowQ (row q r) (mat k) (mat v) (row d r) (row z r) x := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row, mat, scl, lowest, score, top, ex, prob, sg, gated, dprob, dscore, rowQ, rowZ]
/-- Head 2's store into the gradient of the query. -/
theorem q2 : (k0_pay29 (F := Ideal) k v (k0_pay23 q k) z d (ix2 r x) : EReal) = rowQ (row q r) (mat k) (mat v) (row d r) (row z r) x := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row, mat, scl, lowest, score, top, ex, prob, sg, gated, dprob, dscore, rowQ, rowZ]
/-- Head 3's store into the gradient of the query. -/
theorem q3 : (k0_pay2 (F := Ideal) k v (k0_pay35 q k) (k0_pay37 z d) (ix2 r x) : EReal) = rowQ (row q r) (mat k) (mat v) (row d r) (row z r) x := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row, mat, scl, lowest, score, top, ex, prob, sg, gated, dprob, dscore, rowQ, rowZ]
/-- Head 0's store into the gradient of the gate. -/
theorem z0 : (k0_pay9 (F := Ideal) q k v z d (ix2 r x) : EReal) = rowZ (row q r) (mat k) (mat v) (row d r) (row z r) x := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row, mat, scl, lowest, score, top, ex, prob, sg, gated, dprob, dscore, rowQ, rowZ]
/-- Head 1's store into the gradient of the gate. -/
theorem z1 : (k0_pay18 (F := Ideal) v (k0_pay14 q k) (FloatOps.ofBits FTy.f32 1026884851#32) z d (ix2 r x) : EReal) = rowZ (row q r) (mat k) (mat v) (row d r) (row z r) x := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row, mat, scl, lowest, score, top, ex, prob, sg, gated, dprob, dscore, rowQ, rowZ]
/-- Head 2's store into the gradient of the gate. -/
theorem z2 : (k0_pay27 (F := Ideal) (k0_pay24 q k v) z d (ix2 r x) : EReal) = rowZ (row q r) (mat k) (mat v) (row d r) (row z r) x := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row, mat, scl, lowest, score, top, ex, prob, sg, gated, dprob, dscore, rowQ, rowZ]
/-- Head 3's store into the gradient of the gate. -/
theorem z3 : (k0_pay38 (F := Ideal) q k v z d (ix2 r x) : EReal) = rowZ (row q r) (mat k) (mat v) (row d r) (row z r) x := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row, mat, scl, lowest, score, top, ex, prob, sg, gated, dprob, dscore, rowQ, rowZ]
/-- Head 0's store into the gradient of the keys. -/
theorem k0 : (k0_pay12 (F := Ideal) q v (k0_pay6 q k) (k0_pay8 z d) a (ix2 r x) : EReal) = a (ix2 r x) + ∑ s, dscore (row q s) (mat k) (mat v) (row d s) (row z s) r * row q s x := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row, mat, scl, lowest, score, top, ex, prob, sg, gated, dprob, dscore, rowQ, rowZ]
/-- Head 1's store into the gradient of the keys. -/
theorem k1 : (k0_pay21 (F := Ideal) q (k0_pay19 v (k0_pay14 q k) (FloatOps.ofBits FTy.f32 1026884851#32) z d) a (ix2 r x) : EReal) = a (ix2 r x) + ∑ s, dscore (row q s) (mat k) (mat v) (row d s) (row z s) r * row q s x := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row, mat, scl, lowest, score, top, ex, prob, sg, gated, dprob, dscore, rowQ, rowZ]
/-- Head 2's store into the gradient of the keys. -/
theorem k2 : (k0_pay30 (F := Ideal) q v (k0_pay23 q k) z d a (ix2 r x) : EReal) = a (ix2 r x) + ∑ s, dscore (row q s) (mat k) (mat v) (row d s) (row z s) r * row q s x := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row, mat, scl, lowest, score, top, ex, prob, sg, gated, dprob, dscore, rowQ, rowZ]
/-- Head 3's store into the gradient of the keys. -/
theorem k3 : (k0_pay3 (F := Ideal) q v (k0_pay35 q k) (k0_pay37 z d) a (ix2 r x) : EReal) = a (ix2 r x) + ∑ s, dscore (row q s) (mat k) (mat v) (row d s) (row z s) r * row q s x := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row, mat, scl, lowest, score, top, ex, prob, sg, gated, dprob, dscore, rowQ, rowZ]
/-- Head 0's store into the gradient of the values. -/
theorem v0 : (k0_pay13 (F := Ideal) (k0_pay6 q k) (k0_pay8 z d) a (ix2 r x) : EReal) = a (ix2 r x) + ∑ s, prob (row q s) (mat k) r * gated (row d s) (row z s) x := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row, mat, scl, lowest, score, top, ex, prob, sg, gated, dprob, dscore, rowQ, rowZ]
/-- Head 1's store into the gradient of the values. -/
theorem v1 : (k0_pay22 (F := Ideal) (k0_pay15 (k0_pay14 q k) (FloatOps.ofBits FTy.f32 1026884851#32)) (k0_pay17 z d) a (ix2 r x) : EReal) = a (ix2 r x) + ∑ s, prob (row q s) (mat k) r * gated (row d s) (row z s) x := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row, mat, scl, lowest, score, top, ex, prob, sg, gated, dprob, dscore, rowQ, rowZ]
/-- Head 2's store into the gradient of the values. -/
theorem v2 : (k0_pay34 (F := Ideal) (k0_pay31 a) (k0_pay32 (k0_pay23 q k)) (k0_pay33 z d) (ix2 r x) : EReal) = a (ix2 r x) + ∑ s, prob (row q s) (mat k) r * gated (row d s) (row z s) x := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row, mat, scl, lowest, score, top, ex, prob, sg, gated, dprob, dscore, rowQ, rowZ]
/-- Head 3's store into the gradient of the values. -/
theorem v3 : (k0_pay4 (F := Ideal) (k0_pay35 q k) (k0_pay37 z d) a (ix2 r x) : EReal) = a (ix2 r x) + ∑ s, prob (row q s) (mat k) r * gated (row d s) (row z s) x := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row, mat, scl, lowest, score, top, ex, prob, sg, gated, dprob, dscore, rowQ, rowZ]
/-- The zeros of the first point. -/
theorem zeros (y : S256x4096.Idx) : (k0_pay5 (F := Ideal) y : EReal) = 0 := by
  pointwise [k0_pay5]

end Cert.KernelIdeal.Pay
end
-- ==== Proof.Blocks.lean ====
module
public import proofs.«01_k».proof.Proof.Pay
public import Idealize.ShloMosaic.Lib.Pipeline.ReadBack

/-! The kernel's three results in closed form. -/

@[expose] public section
set_option maxRecDepth 16384
noncomputable section
open Idealize.ShloMosaic Idealize.ShloMosaic.TcCoe Idealize.SL.Sem
open Idealize.ShloMosaic.Pipeline (Dat)
namespace Cert.KernelIdeal.Blocks
open Cert.KernelIdeal Cert.KernelIdeal.Gen Cert.AttnRow

variable (m : (ℓ : Loc nD τ sig) → Buf (Elt Ideal) ℓ)

/-- The block each window takes at a point. -/
theorem idx : ∀ t : Fin cfg0.N, win0_0.index t = ![t.val, 0] ∧ win0_1.index t = ![t.val, 8] ∧ win0_2.index t = ![t.val, 9] ∧
    win0_3.index t = ![0, 0] ∧ win0_4.index t = ![t.val, 0] ∧ win0_5.index t = ![t.val, 0] ∧ win0_6.index t = ![0, 0] :=
  (by decide +kernel : ∀ t : Fin grid0.N, _)

/-- The incoming gradient, by row and column. -/
def Da (c : Dev nD) : Fin 8192 → Fin 2048 → EReal := fun s x => m ((c : Thread nD τ).loc main_arg0) (ix2 s x)
/-- The projections, by row and column. -/
def Pa (c : Dev nD) : Fin 8192 → Fin 26624 → EReal := fun s x => m ((c : Thread nD τ).loc main_arg1) (ix2 s x)
/-- The memory's keys and values, by row and column. -/
def Ka (c : Dev nD) : Fin 256 → Fin 4096 → EReal := fun s x => m ((c : Thread nD τ).loc main_arg2) (ix2 s x)

/-- Row `r` of tile `t`. -/
def rowAt (t : Fin cfg0.N) (r : Fin 256) : Fin 8192 := ⟨256 * t.val + r.val, by have : t.val < 32 := t.isLt; omega⟩

/-- A head's tile of the query is its rows of the array. -/
theorem ld_q (c : Dev nD) (t : Fin cfg0.N) (h : Fin 4) (o : ℕ) (ho : o = 512 * h.val) (inb : ∀ a, (![0, o] : Fin 2 → ℕ) a + (![256, 512] : Fin 2 → ℕ) a ≤ S256x2048.size a) (r : Fin 256) :
    Pay.row (View.ld (iblk m c 1 t) (Rect.unit ![0, o] ![256, 512] inb)) r = qRow (Pa m c) h (rowAt t r) := by
  subst ho
  funext a; unfold Pay.row qRow Pa rowAt
  blk_point [iblk, V, idx t]
/-- A head's tile of the gate is its rows of the array. -/
theorem ld_z (c : Dev nD) (t : Fin cfg0.N) (h : Fin 4) (o : ℕ) (ho : o = 512 * h.val) (inb : ∀ a, (![0, o] : Fin 2 → ℕ) a + (![256, 512] : Fin 2 → ℕ) a ≤ S256x2048.size a) (r : Fin 256) :
    Pay.row (View.ld (iblk m c 2 t) (Rect.unit ![0, o] ![256, 512] inb)) r = zRow (Pa m c) h (rowAt t r) := by
  subst ho
  funext a; unfold Pay.row zRow Pa rowAt
  blk_point [iblk, V, idx t]
/-- A head's tile of the incoming gradient is its rows of the array. -/
theorem ld_d (c : Dev nD) (t : Fin cfg0.N) (h : Fin 4) (o : ℕ) (ho : o = 512 * h.val) (inb : ∀ a, (![0, o] : Fin 2 → ℕ) a + (![256, 512] : Fin 2 → ℕ) a ≤ S256x2048.size a) (r : Fin 256) :
    Pay.row (View.ld (iblk m c 0 t) (Rect.unit ![0, o] ![256, 512] inb)) r = dRow (Da m c) h (rowAt t r) := by
  subst ho
  funext a; unfold Pay.row dRow Da rowAt
  blk_point [iblk, V, idx t]
/-- A head's tile of the keys is its matrix. -/
theorem ld_k (c : Dev nD) (t : Fin cfg0.N) (h : Fin 4) (o : ℕ) (ho : o = 512 * h.val) (inb : ∀ a, (![0, o] : Fin 2 → ℕ) a + (![256, 512] : Fin 2 → ℕ) a ≤ S256x4096.size a) :
    Pay.mat (View.ld (iblk m c 3 t) (Rect.unit ![0, o] ![256, 512] inb)) = kMat (Ka m c) h := by
  subst ho
  funext a b; unfold Pay.mat kMat Ka
  blk_point [iblk, V, idx t]
/-- A head's tile of the values is its matrix. -/
theorem ld_v (c : Dev nD) (t : Fin cfg0.N) (h : Fin 4) (o : ℕ) (ho : o = 2048 + 512 * h.val) (inb : ∀ a, (![0, o] : Fin 2 → ℕ) a + (![256, 512] : Fin 2 → ℕ) a ≤ S256x4096.size a) :
    Pay.mat (View.ld (iblk m c 3 t) (Rect.unit ![0, o] ![256, 512] inb)) = vMat (Ka m c) h := by
  subst ho
  funext a b; unfold Pay.mat vMat Ka
  blk_point [iblk, V, idx t]

/-- A column's head. -/
theorem head_of (h : Fin 4) (x : Fin 512) (n : ℕ) (e : n = 512 * h.val + x.val) : head n = h := by
  apply Fin.ext; unfold head; dsimp only; omega
/-- A column's place in its head. -/
theorem lane_of (h : Fin 4) (x : Fin 512) (n : ℕ) (e : n = 512 * h.val + x.val) : lane n = x := by
  apply Fin.ext; unfold lane; dsimp only; omega

/-- What a point leaves in the block of the gradient into the query. -/
theorem point4 (c : Dev nD) (t : Fin cfg0.N) (y : S256x2048.Idx) :
    (outsAt0 m c t.val t.isLt).1 y = outQ (Da m c) (Pa m c) (Ka m c) (head (y 1).val) (rowAt t (y 0)) (lane (y 1).val) := by
  by_cases hA : t.val % 32 = 0
  on_goal 1 => rw [outsAt0_A m c t hA]
  on_goal 2 => rw [outsAt0_B m c t hA]
  all_goals frame_out
  all_goals canon_tiles y h
  all_goals obtain ⟨r, x, rfl⟩ : ∃ (r : Fin 256) (x : Fin 512), y = ix2 r x := ⟨y 0, y 1, by blk_ext⟩
  case piece0 =>
    rw [Pay.q3, head_of 3 x _ h1, lane_of 3 x _ h1, Fin.ext h0, ld_q m c t 3 1536 rfl, ld_z m c t 3 1536 rfl, ld_d m c t 3 1536 rfl, ld_k m c t 3 1536 rfl, ld_v m c t 3 3584 rfl]
    rfl
  case piece0 =>
    rw [Pay.q3, head_of 3 x _ h1, lane_of 3 x _ h1, Fin.ext h0, ld_q m c t 3 1536 rfl, ld_z m c t 3 1536 rfl, ld_d m c t 3 1536 rfl, ld_k m c t 3 1536 rfl, ld_v m c t 3 3584 rfl]
    rfl
  case piece1 =>
    rw [Pay.q2, head_of 2 x _ h1, lane_of 2 x _ h1, Fin.ext h0, ld_q m c t 2 1024 rfl, ld_z m c t 2 1024 rfl, ld_d m c t 2 1024 rfl, ld_k m c t 2 1024 rfl, ld_v m c t 2 3072 rfl]
    rfl
  case piece1 =>
    rw [Pay.q2, head_of 2 x _ h1, lane_of 2 x _ h1, Fin.ext h0, ld_q m c t 2 1024 rfl, ld_z m c t 2 1024 rfl, ld_d m c t 2 1024 rfl, ld_k m c t 2 1024 rfl, ld_v m c t 2 3072 rfl]
    rfl
  case piece2 =>
    rw [Pay.q1, head_of 1 x _ h1, lane_of 1 x _ h1, Fin.ext h0, ld_q m c t 1 512 rfl, ld_z m c t 1 512 rfl, ld_d m c t 1 512 rfl, ld_k m c t 1 512 rfl, ld_v m c t 1 2560 rfl]
    rfl
  case piece2 =>
    rw [Pay.q1, head_of 1 x _ h1, lane_of 1 x _ h1, Fin.ext h0, ld_q m c t 1 512 rfl, ld_z m c t 1 512 rfl, ld_d m c t 1 512 rfl, ld_k m c t 1 512 rfl, ld_v m c t 1 2560 rfl]
    rfl
  case piece3 =>
    rw [Pay.q0, head_of 0 x _ (h1.trans (Nat.zero_add _).symm), lane_of 0 x _ (h1.trans (Nat.zero_add _).symm), Fin.ext h0, ld_q m c t 0 0 rfl, ld_z m c t 0 0 rfl, ld_d m c t 0 0 rfl, ld_k m c t 0 0 rfl, ld_v m c t 0 2048 rfl]
    rfl
  case piece3 =>
    rw [Pay.q0, head_of 0 x _ (h1.trans (Nat.zero_add _).symm), lane_of 0 x _ (h1.trans (Nat.zero_add _).symm), Fin.ext h0, ld_q m c t 0 0 rfl, ld_z m c t 0 0 rfl, ld_d m c t 0 0 rfl, ld_k m c t 0 0 rfl, ld_v m c t 0 2048 rfl]
    rfl

/-- The gradient into the query, in closed form. -/
theorem arr4 (c : Dev nD) : (dats m 0 c).arrAt 4 cfg0.N = fun y => outQ (Da m c) (Pa m c) (Ka m c) (head (y 1)) (y 0) (lane (y 1)) := by
  refine (dats m 0 c).arrAt_eq_of_covers 4 _ (by decide +kernel) fun t hf y => ?_
  blk_simp [idx t]
  rw [after0_4, point4]
  congr 1
  apply Fin.ext
  show 256 * t.val + (y 0).val = _
  blk_simp [idx t]
  omega

/-- What a point leaves in the block of the gradient into the gate. -/
theorem point5 (c : Dev nD) (t : Fin cfg0.N) (y : S256x2048.Idx) :
    (outsAt0 m c t.val t.isLt).2.1 y = outZ (Da m c) (Pa m c) (Ka m c) (head (y 1).val) (rowAt t (y 0)) (lane (y 1).val) := by
  by_cases hA : t.val % 32 = 0
  on_goal 1 => rw [outsAt0_A m c t hA]
  on_goal 2 => rw [outsAt0_B m c t hA]
  all_goals frame_out
  all_goals canon_tiles y h
  all_goals obtain ⟨r, x, rfl⟩ : ∃ (r : Fin 256) (x : Fin 512), y = ix2 r x := ⟨y 0, y 1, by blk_ext⟩
  case piece0 =>
    rw [Pay.z3, head_of 3 x _ h1, lane_of 3 x _ h1, Fin.ext h0, ld_q m c t 3 1536 rfl, ld_z m c t 3 1536 rfl, ld_d m c t 3 1536 rfl, ld_k m c t 3 1536 rfl, ld_v m c t 3 3584 rfl]
    rfl
  case piece0 =>
    rw [Pay.z3, head_of 3 x _ h1, lane_of 3 x _ h1, Fin.ext h0, ld_q m c t 3 1536 rfl, ld_z m c t 3 1536 rfl, ld_d m c t 3 1536 rfl, ld_k m c t 3 1536 rfl, ld_v m c t 3 3584 rfl]
    rfl
  case piece1 =>
    rw [Pay.z2, head_of 2 x _ h1, lane_of 2 x _ h1, Fin.ext h0, ld_q m c t 2 1024 rfl, ld_z m c t 2 1024 rfl, ld_d m c t 2 1024 rfl, ld_k m c t 2 1024 rfl, ld_v m c t 2 3072 rfl]
    rfl
  case piece1 =>
    rw [Pay.z2, head_of 2 x _ h1, lane_of 2 x _ h1, Fin.ext h0, ld_q m c t 2 1024 rfl, ld_z m c t 2 1024 rfl, ld_d m c t 2 1024 rfl, ld_k m c t 2 1024 rfl, ld_v m c t 2 3072 rfl]
    rfl
  case piece2 =>
    rw [Pay.z1, head_of 1 x _ h1, lane_of 1 x _ h1, Fin.ext h0, ld_q m c t 1 512 rfl, ld_z m c t 1 512 rfl, ld_d m c t 1 512 rfl, ld_k m c t 1 512 rfl, ld_v m c t 1 2560 rfl]
    rfl
  case piece2 =>
    rw [Pay.z1, head_of 1 x _ h1, lane_of 1 x _ h1, Fin.ext h0, ld_q m c t 1 512 rfl, ld_z m c t 1 512 rfl, ld_d m c t 1 512 rfl, ld_k m c t 1 512 rfl, ld_v m c t 1 2560 rfl]
    rfl
  case piece3 =>
    rw [Pay.z0, head_of 0 x _ (h1.trans (Nat.zero_add _).symm), lane_of 0 x _ (h1.trans (Nat.zero_add _).symm), Fin.ext h0, ld_q m c t 0 0 rfl, ld_z m c t 0 0 rfl, ld_d m c t 0 0 rfl, ld_k m c t 0 0 rfl, ld_v m c t 0 2048 rfl]
    rfl
  case piece3 =>
    rw [Pay.z0, head_of 0 x _ (h1.trans (Nat.zero_add _).symm), lane_of 0 x _ (h1.trans (Nat.zero_add _).symm), Fin.ext h0, ld_q m c t 0 0 rfl, ld_z m c t 0 0 rfl, ld_d m c t 0 0 rfl, ld_k m c t 0 0 rfl, ld_v m c t 0 2048 rfl]
    rfl

/-- The gradient into the gate, in closed form. -/
theorem arr5 (c : Dev nD) : (dats m 0 c).arrAt 5 cfg0.N = fun y => outZ (Da m c) (Pa m c) (Ka m c) (head (y 1)) (y 0) (lane (y 1)) := by
  refine (dats m 0 c).arrAt_eq_of_covers 5 _ (by decide +kernel) fun t hf y => ?_
  blk_simp [idx t]
  rw [after0_5, point5]
  congr 1
  apply Fin.ext
  show 256 * t.val + (y 0).val = _
  blk_simp [idx t]
  omega

end Cert.KernelIdeal.Blocks
end
-- ==== Proof.Memory.lean ====
module
public import proofs.«01_k».proof.Proof.Blocks
public import Idealize.ShloMosaic.Lib.Pipeline.ReadBack

/-! The kernel's third result, accumulated over the grid, in closed form. -/

@[expose] public section
set_option maxRecDepth 16384
noncomputable section
open Idealize.ShloMosaic Idealize.ShloMosaic.TcCoe Idealize.SL.Sem
open Idealize.ShloMosaic.Pipeline (Dat)
namespace Cert.KernelIdeal.Blocks
open Cert.KernelIdeal Cert.KernelIdeal.Gen Cert.AttnRow

variable (m : (ℓ : Loc nD τ sig) → Buf (Elt Ideal) ℓ)

/-- Stores that cover an index hide the earlier ones there. -/
theorem canon_append_of_cover {S : Shape} {e : EltTy} {Val : EltTy → Type} [∀ e, Nonempty (Val e)] (L' : List (View.Piece Val S e)) (y : S.Idx) :
    ∀ L : List (View.Piece Val S e), (∃ p ∈ L, y ∈ p.1.set) → View.canon (L ++ L') y = View.canon L y
  | [], h => by obtain ⟨_, hm, _⟩ := h; exact absurd hm List.not_mem_nil
  | p :: L, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · rw [List.cons_append, View.canon_cons_of_not_mem p _ hy, View.canon_cons_of_not_mem p _ hy]
      refine canon_append_of_cover L' y L ?_
      obtain ⟨q, hq, hyq⟩ := h
      rcases List.mem_cons.mp hq with rfl | hq
      · exact absurd hyq hy
      · exact ⟨q, hq, hyq⟩

/-- Eight stores that tile the block hide what a ninth, earlier one left. -/
theorem canon_eight {S : Shape} {e : EltTy} {Val : EltTy → Type} [∀ e, Nonempty (Val e)] (p0 p1 p2 p3 p4 p5 p6 p7 z : View.Piece Val S e) (y : S.Idx)
    (h : ∃ p ∈ [p0, p1, p2, p3, p4, p5, p6, p7], y ∈ p.1.set) :
    View.canon [p0, p1, p2, p3, p4, p5, p6, p7, z] y = View.canon [p0, p1, p2, p3, p4, p5, p6, p7] y :=
  canon_append_of_cover [z] y [p0, p1, p2, p3, p4, p5, p6, p7] h

/-- A tile's entry in the block it is read from. -/
theorem ld_at (X : FVec Ideal S256x4096 .f32) (o : ℕ) (inb : ∀ a, (![0, o] : Fin 2 → ℕ) a + (![256, 512] : Fin 2 → ℕ) a ≤ S256x4096.size a)
    (i : S256x4096.Idx) (r : Fin 256) (x : Fin 512) (h0 : (i 0).val = r.val) (h1 : (i 1).val = o + x.val) :
    (View.ld (Val := Elt Ideal) (e' := .f32) X (Rect.unit (s := S256x4096) ![0, o] ![256, 512] inb)) (ix2 r x) = X i := by
  pointwise
  congr 1
  blk_ext

variable (m : (ℓ : Loc nD τ sig) → Buf (Elt Ideal) ℓ)

/-- What point `t` adds to the gradient into the memory. -/
def add6 (c : Dev nD) (t : Fin cfg0.N) (y : S256x4096.Idx) : EReal :=
  ∑ r : Fin 256, part (Da m c) (Pa m c) (Ka m c) (rowAt t r) (y 0) (y 1).val

/-- In a column of the keys. -/
theorem add6_k (c : Dev nD) (t : Fin cfg0.N) (y : S256x4096.Idx) (h : Fin 4) (r : Fin 256) (x : Fin 512)
    (h0 : (y 0).val = r.val) (h1 : (y 1).val = 512 * h.val + x.val) :
    add6 m c t y = ∑ s : Fin 256, partK (Da m c) (Pa m c) (Ka m c) h (rowAt t s) r x := by
  unfold add6 part
  rw [head_of h x _ h1, lane_of h x _ h1, show y 0 = r from Fin.ext h0]
  exact Finset.sum_congr rfl fun s _ => if_pos (by omega)

/-- In a column of the values. -/
theorem add6_v (c : Dev nD) (t : Fin cfg0.N) (y : S256x4096.Idx) (h : Fin 4) (r : Fin 256) (x : Fin 512)
    (h0 : (y 0).val = r.val) (h1 : (y 1).val = 2048 + 512 * h.val + x.val) :
    add6 m c t y = ∑ s : Fin 256, partV (Da m c) (Pa m c) (Ka m c) h (rowAt t s) r x := by
  unfold add6 part
  rw [show head (y 1).val = h from Fin.ext (by unfold head; dsimp only; omega),
    show lane (y 1).val = x from Fin.ext (by unfold lane; dsimp only; omega), show y 0 = r from Fin.ext h0]
  exact Finset.sum_congr rfl fun s _ => if_neg (by omega)

set_option maxHeartbeats 1000000 in
/-- The first point of the grid starts from zero. -/
theorem first6 (c : Dev nD) (t : Fin cfg0.N) (hA : t.val % 32 = 0) (y : S256x4096.Idx) :
    (outsAt0 m c t.val t.isLt).2.2 y = 0 + add6 m c t y := by
  rw [outsAt0_A m c t hA]
  frame_out
  rw [canon_eight _ _ _ _ _ _ _ _ _ _ (View.cover_of_tiled _ ![256, 512] (by rfl) y)]
  canon_tiles y h
  all_goals obtain ⟨r, x, rfl⟩ : ∃ (r : Fin 256) (x : Fin 512), y = ix2 r x := ⟨y 0, y 1, by blk_ext⟩
  all_goals simp (disch := decide) only [↓View.readCov_skip, View.readCov_fill]
  case piece0 =>
    rw [Pay.v3, add6_v m c t _ 3 r x h0 h1, ld_at _ 3584 _ _ r x h0 h1, Pay.zeros]
    refine congrArg (_ + ·) (Finset.sum_congr rfl fun s _ => ?_)
    rw [ld_q m c t 3 1536 rfl, ld_z m c t 3 1536 rfl, ld_d m c t 3 1536 rfl, ld_k m c t 3 1536 rfl]
    rfl
  case piece1 =>
    rw [Pay.k3, add6_k m c t _ 3 r x h0 h1, ld_at _ 1536 _ _ r x h0 h1, Pay.zeros]
    refine congrArg (_ + ·) (Finset.sum_congr rfl fun s _ => ?_)
    rw [ld_q m c t 3 1536 rfl, ld_z m c t 3 1536 rfl, ld_d m c t 3 1536 rfl, ld_k m c t 3 1536 rfl, ld_v m c t 3 3584 rfl]
    exact congrArg (_ * ·) (congrFun (ld_q m c t 3 1536 rfl _ s) x)
  case piece2 =>
    rw [Pay.v2, add6_v m c t _ 2 r x h0 h1, ld_at _ 3072 _ _ r x h0 h1, Pay.zeros]
    refine congrArg (_ + ·) (Finset.sum_congr rfl fun s _ => ?_)
    rw [ld_q m c t 2 1024 rfl, ld_z m c t 2 1024 rfl, ld_d m c t 2 1024 rfl, ld_k m c t 2 1024 rfl]
    rfl
  case piece3 =>
    rw [Pay.k2, add6_k m c t _ 2 r x h0 h1, ld_at _ 1024 _ _ r x h0 h1, Pay.zeros]
    refine congrArg (_ + ·) (Finset.sum_congr rfl fun s _ => ?_)
    rw [ld_q m c t 2 1024 rfl, ld_z m c t 2 1024 rfl, ld_d m c t 2 1024 rfl, ld_k m c t 2 1024 rfl, ld_v m c t 2 3072 rfl]
    exact congrArg (_ * ·) (congrFun (ld_q m c t 2 1024 rfl _ s) x)
  case piece4 =>
    rw [Pay.v1, add6_v m c t _ 1 r x h0 h1, ld_at _ 2560 _ _ r x h0 h1, Pay.zeros]
    refine congrArg (_ + ·) (Finset.sum_congr rfl fun s _ => ?_)
    rw [ld_q m c t 1 512 rfl, ld_z m c t 1 512 rfl, ld_d m c t 1 512 rfl, ld_k m c t 1 512 rfl]
    rfl
  case piece5 =>
    rw [Pay.k1, add6_k m c t _ 1 r x h0 h1, ld_at _ 512 _ _ r x h0 h1, Pay.zeros]
    refine congrArg (_ + ·) (Finset.sum_congr rfl fun s _ => ?_)
    rw [ld_q m c t 1 512 rfl, ld_z m c t 1 512 rfl, ld_d m c t 1 512 rfl, ld_k m c t 1 512 rfl, ld_v m c t 1 2560 rfl]
    exact congrArg (_ * ·) (congrFun (ld_q m c t 1 512 rfl _ s) x)
  case piece6 =>
    rw [Pay.v0, add6_v m c t _ 0 r x h0 h1, ld_at _ 2048 _ _ r x h0 h1, Pay.zeros]
    refine congrArg (_ + ·) (Finset.sum_congr rfl fun s _ => ?_)
    rw [ld_q m c t 0 0 rfl, ld_z m c t 0 0 rfl, ld_d m c t 0 0 rfl, ld_k m c t 0 0 rfl]
    rfl
  case piece7 =>
    rw [Pay.k0, add6_k m c t _ 0 r x h0 (h1.trans (Nat.zero_add _).symm), ld_at _ 0 _ _ r x h0 (h1.trans (Nat.zero_add _).symm), Pay.zeros]
    refine congrArg (_ + ·) (Finset.sum_congr rfl fun s _ => ?_)
    rw [ld_q m c t 0 0 rfl, ld_z m c t 0 0 rfl, ld_d m c t 0 0 rfl, ld_k m c t 0 0 rfl, ld_v m c t 0 2048 rfl]
    exact congrArg (_ * ·) (congrFun (ld_q m c t 0 0 rfl _ s) x)

set_option maxHeartbeats 1000000 in
/-- Every later point adds to what the one before it left. -/
theorem next6 (c : Dev nD) (t : Fin cfg0.N) (hB : ¬ t.val % 32 = 0) (y : S256x4096.Idx) :
    (outsAt0 m c t.val t.isLt).2.2 y =
      (outsAt0 m c (t.val - 1) (Nat.lt_of_le_of_lt (Nat.sub_le _ _) t.isLt)).2.2 y + add6 m c t y := by
  rw [outsAt0_B m c t hB]
  frame_out
  generalize (outsAt0 m c (t.val - 1) _).2.2 = prev
  canon_tiles y h
  all_goals obtain ⟨r, x, rfl⟩ : ∃ (r : Fin 256) (x : Fin 512), y = ix2 r x := ⟨y 0, y 1, by blk_ext⟩
  case piece0 =>
    rw [Pay.v3, add6_v m c t _ 3 r x h0 h1, ld_at _ 3584 _ _ r x h0 h1]
    refine congrArg (_ + ·) (Finset.sum_congr rfl fun s _ => ?_)
    rw [ld_q m c t 3 1536 rfl, ld_z m c t 3 1536 rfl, ld_d m c t 3 1536 rfl, ld_k m c t 3 1536 rfl]
    rfl
  case piece1 =>
    rw [Pay.k3, add6_k m c t _ 3 r x h0 h1, ld_at _ 1536 _ _ r x h0 h1]
    refine congrArg (_ + ·) (Finset.sum_congr rfl fun s _ => ?_)
    rw [ld_q m c t 3 1536 rfl, ld_z m c t 3 1536 rfl, ld_d m c t 3 1536 rfl, ld_k m c t 3 1536 rfl, ld_v m c t 3 3584 rfl]
    exact congrArg (_ * ·) (congrFun (ld_q m c t 3 1536 rfl _ s) x)
  case piece2 =>
    rw [Pay.v2, add6_v m c t _ 2 r x h0 h1, ld_at _ 3072 _ _ r x h0 h1]
    refine congrArg (_ + ·) (Finset.sum_congr rfl fun s _ => ?_)
    rw [ld_q m c t 2 1024 rfl, ld_z m c t 2 1024 rfl, ld_d m c t 2 1024 rfl, ld_k m c t 2 1024 rfl]
    rfl
  case piece3 =>
    rw [Pay.k2, add6_k m c t _ 2 r x h0 h1, ld_at _ 1024 _ _ r x h0 h1]
    refine congrArg (_ + ·) (Finset.sum_congr rfl fun s _ => ?_)
    rw [ld_q m c t 2 1024 rfl, ld_z m c t 2 1024 rfl, ld_d m c t 2 1024 rfl, ld_k m c t 2 1024 rfl, ld_v m c t 2 3072 rfl]
    exact congrArg (_ * ·) (congrFun (ld_q m c t 2 1024 rfl _ s) x)
  case piece4 =>
    rw [Pay.v1, add6_v m c t _ 1 r x h0 h1, ld_at _ 2560 _ _ r x h0 h1]
    refine congrArg (_ + ·) (Finset.sum_congr rfl fun s _ => ?_)
    rw [ld_q m c t 1 512 rfl, ld_z m c t 1 512 rfl, ld_d m c t 1 512 rfl, ld_k m c t 1 512 rfl]
    rfl
  case piece5 =>
    rw [Pay.k1, add6_k m c t _ 1 r x h0 h1, ld_at _ 512 _ _ r x h0 h1]
    refine congrArg (_ + ·) (Finset.sum_congr rfl fun s _ => ?_)
    rw [ld_q m c t 1 512 rfl, ld_z m c t 1 512 rfl, ld_d m c t 1 512 rfl, ld_k m c t 1 512 rfl, ld_v m c t 1 2560 rfl]
    exact congrArg (_ * ·) (congrFun (ld_q m c t 1 512 rfl _ s) x)
  case piece6 =>
    rw [Pay.v0, add6_v m c t _ 0 r x h0 h1, ld_at _ 2048 _ _ r x h0 h1]
    refine congrArg (_ + ·) (Finset.sum_congr rfl fun s _ => ?_)
    rw [ld_q m c t 0 0 rfl, ld_z m c t 0 0 rfl, ld_d m c t 0 0 rfl, ld_k m c t 0 0 rfl]
    rfl
  case piece7 =>
    rw [Pay.k0, add6_k m c t _ 0 r x h0 (h1.trans (Nat.zero_add _).symm), ld_at _ 0 _ _ r x h0 (h1.trans (Nat.zero_add _).symm)]
    refine congrArg (_ + ·) (Finset.sum_congr rfl fun s _ => ?_)
    rw [ld_q m c t 0 0 rfl, ld_z m c t 0 0 rfl, ld_d m c t 0 0 rfl, ld_k m c t 0 0 rfl, ld_v m c t 0 2048 rfl]
    exact congrArg (_ * ·) (congrFun (ld_q m c t 0 0 rfl _ s) x)

/-- The gradient into the memory, in closed form. -/
theorem arr6 (c : Dev nD) : (dats m 0 c).arrAt 6 cfg0.N =
    fun y => ∑ s : Fin 8192, part (Da m c) (Pa m c) (Ka m c) s (y 0) (y 1).val := by
  refine (dats m 0 c).arrAt_eq_of_covers 6 _ (by decide +kernel) fun t hf y => ?_
  blk_simp [idx t]
  rw [after0_6, Pipeline.eq_sum_fin_of_reset_step_apply_of_flush (fun n h => (outsAt0 m c n h).2.2) 32 (fun _ => 0) (add6 m c)
    (first6 m c) (next6 m c) t ((flush0_6 t).mp hf) _]
  rw [zero_add]
  have hN : t.val < 32 := t.isLt
  have e0 : ((win0_6.blk t).view.emb y 0 : Fin 256) = y 0 := by
    apply Fin.ext
    blk_simp [idx t]
  rw [e0]
  unfold add6 rowAt
  have key : ∀ g : Fin 8192 → EReal, ∑ s : Fin 32, ∑ r : Fin 256, g ⟨256 * (32 * (t.val / 32) + s.val) + r.val, by omega⟩ = ∑ x, g x := by
    intro g
    refine Fin.sum_mul_add_congr fun s k hl => ?_
    congr 1
    apply Fin.ext
    dsimp only
    omega
  exact key fun x => part (Da m c) (Pa m c) (Ka m c) x (y 0) (y 1).val

end Cert.KernelIdeal.Blocks
end
-- ==== Proof.Ref.lean ====
module
public import proofs.«01_k».proof.Proof.Row
public import proofs.«01_k».proof.Proof.Gen.ReferenceIdeal.Read
public import Idealize.ShloMosaic.Lib.Pipeline.ValueKit

/-! The reference's three results, read at an index. -/

@[expose] public section
set_option maxRecDepth 16384
noncomputable section
open Idealize.ShloMosaic Idealize.ShloMosaic.TcCoe Idealize.SL.Sem
namespace Cert.ReferenceIdeal.Ref
open Cert.ReferenceIdeal Cert.ReferenceIdeal.Gen Cert.ReferenceIdeal.Read Cert.AttnRow

variable (x0 : FVec Ideal S8192x2048 .f32) (x1 : FVec Ideal S8192x26624 .f32) (x2 : FVec Ideal S256x4096 .bf16)
variable (h : Fin 4) (s : Fin 8192) (m : Fin 256) (x : Fin 512)

/-- The incoming gradient, by row and column. -/
def Dr : Fin 8192 → Fin 2048 → EReal := fun s x => x0 (ix2 s x)
/-- The projections, by row and column. -/
def Pr : Fin 8192 → Fin 26624 → EReal := fun s x => x1 (ix2 s x)
/-- The memory's keys and values, by row and column. -/
def Kr : Fin 256 → Fin 4096 → EReal := fun s x => x2 (ix2 s x)

/-- Column `x` of head `h`. -/
def col (h : Fin 4) (x : Fin 512) : Fin 2048 := ⟨512 * h.val + x.val, by omega⟩

/-! Where each operation reads. -/

theorem idx28 : idx_main_v28 (ix3 h s (0 : Fin 1)) = ix2 h s := by
  blk_ext
theorem idx29 : idx_main_v29 (ix3 h s m) = ix3 h s (0 : Fin 1) := by
  blk_ext
theorem idx32 : idx_main_v32 (ix2 h s) m = ix3 h s m := by
  blk_ext
theorem idx33 : idx_main_v33 (ix3 h s (0 : Fin 1)) = ix2 h s := by
  blk_ext
theorem idx34 : idx_main_v34 (ix3 h s m) = ix3 h s (0 : Fin 1) := by
  blk_ext
theorem lidx39 : lidx_main_v39 (ix3 h x s) m = ix3 m h x := by
  blk_ext
theorem ridx39 : ridx_main_v39 (ix3 h x s) m = ix3 h s m := by
  blk_ext
theorem idx40 : idx_main_v40 (ix3 s h x) = ix3 h x s := by
  blk_ext
theorem idx41 : idx_main_v41 (ix2 s (col h x)) = ix3 s h x := by
  unfold col
  blk_ext
theorem idx47 : idx_main_v47 (ix3 s h x) = ix2 s (col h x) := by
  unfold col
  blk_ext
theorem idx48 : idx_main_v48 (ix3 h x s) = ix3 s h x := by
  blk_ext
theorem lidx49 : lidx_main_v49 (ix3 h s m) x = ix3 h x s := by
  blk_ext
theorem ridx49 : ridx_main_v49 (ix3 h s m) x = ix3 m h x := by
  blk_ext
theorem lidx50 : lidx_main_v50 (ix3 h x m) s = ix3 h x s := by
  blk_ext
theorem ridx50 : ridx_main_v50 (ix3 h x m) s = ix3 h s m := by
  blk_ext
theorem idx51 : idx_main_v51 (ix3 m h x) = ix3 h x m := by
  blk_ext
theorem idx52 : idx_main_v52 (ix3 h s m) = ix3 h s (0 : Fin 1) := by
  blk_ext
theorem idx55 : idx_main_v55 (ix2 h s) m = ix3 h s m := by
  blk_ext
theorem idx56 : idx_main_v56 (ix3 h s (0 : Fin 1)) = ix2 h s := by
  blk_ext
theorem idx58 : idx_main_v58 (ix3 h s m) = ix3 h s (0 : Fin 1) := by
  blk_ext
theorem idx60 : idx_main_v60 (ix2 h s) 0 = ix3 h s (0 : Fin 1) := by
  blk_ext
theorem idx61 : idx_main_v61 (ix3 h s m) = ix2 h s := by
  blk_ext
theorem lidx66 : lidx_main_v66 (ix3 h m x) s = ix3 h s m := by
  blk_ext
theorem ridx66 : ridx_main_v66 (ix3 h m x) s = ix3 s h x := by
  blk_ext
theorem idx67 : idx_main_v67 (ix3 m h x) = ix3 h m x := by
  blk_ext
theorem lidx68 : lidx_main_v68 (ix3 h s x) m = ix3 h s m := by
  blk_ext
theorem ridx68 : ridx_main_v68 (ix3 h s x) m = ix3 m h x := by
  blk_ext
theorem idx69 : idx_main_v69 (ix3 s h x) = ix3 h s x := by
  blk_ext
theorem idx70 : idx_main_v70 (ix2 s (col h x)) = ix3 s h x := by
  unfold col
  blk_ext
theorem idx71 : idx_main_v71 (ix2 m (col h x)) = ix3 m h x := by
  unfold col
  blk_ext
theorem idx72 : idx_main_v72 (ix2 m (col h x)) = ix3 m h x := by
  unfold col
  blk_ext

/-! A row's gradients as the reference computes them. -/

/-- The logistic function of the reference. -/
def sgR (z : EReal) : EReal := Ideal.div (Ideal.ofBits .f32 0x3F800000#32) (Ideal.ofBits .f32 0x3F800000#32 + Ideal.exp (-z))
/-- The gradient into the attention's output. -/
def gatedR (d z : Fin 512 → EReal) (x : Fin 512) : EReal := d x * (z x * sgR (z x))
/-- The gradient into the attention. -/
def dprobR (v : Fin 256 → Fin 512 → EReal) (d z : Fin 512 → EReal) (m : Fin 256) : EReal := ∑ x, gatedR d z x * v m x
/-- The sum of the exponentials. -/
def den (q : Fin 512 → EReal) (k : Fin 256 → Fin 512 → EReal) : EReal := ∑ n, ex q k n
/-- The gradient into the scores, times the scale. -/
def dscoreR (q : Fin 512 → EReal) (k v : Fin 256 → Fin 512 → EReal) (d z : Fin 512 → EReal) (m : Fin 256) : EReal :=
  (Ideal.div (dprobR v d z m) (den q k) +
    -(∑ n, dprobR v d z n * Ideal.div (Ideal.ofBits .f32 0x3F800000#32) (den q k * den q k) * ex q k n)) * ex q k m * scl
/-- The attention's output times the incoming gradient. -/
def outd (q : Fin 512 → EReal) (k v : Fin 256 → Fin 512 → EReal) (d : Fin 512 → EReal) (x : Fin 512) : EReal :=
  (∑ m, v m x * prob q k m) * d x
/-- The gradient into the gate. -/
def rowZR (q : Fin 512 → EReal) (k v : Fin 256 → Fin 512 → EReal) (d z : Fin 512 → EReal) (x : Fin 512) : EReal :=
  outd q k v d x * sgR (z x) + z x * outd q k v d x * (sgR (z x) * (Ideal.ofBits .f32 0x3F800000#32 - sgR (z x)))

theorem v7_at : (val_main_v7 (F := Ideal) x1 (ix3 s h x) : EReal) = qRow (Pr x1) h s x := by
  pointwise [val_main_v7, val_main_v0, qRow, Pr]
  blk_ext
theorem v5_at : (val_main_v5 (F := Ideal) x2 (ix3 m h x) : EReal) = kMat (Kr x2) h m x := by
  pointwise [val_main_v5, val_main_v3, val_main_v2, kMat, Kr]
  blk_ext
theorem v10_at : (val_main_v10 (F := Ideal) x1 x2 (ix3 h s m) : EReal) = score (qRow (Pr x1) h s) (kMat (Kr x2) h) m := by
  pointwise [val_main_v10, val_main_v9, val_main_cst, val_main_v8]
  simp only [v7_at, v5_at]
  rfl

theorem reduceMax_at (y : FVec Ideal S4x8192x256 .f32) (z : FVec Ideal S_ .f32) :
    (Host.reduce (FloatOps.maximumf (F := Ideal) (φ := .f32)) y z reducesTo_S4x8192x256_S4x8192_d2 h_S_ (ix2 h s) : EReal) =
      Finset.fold max (z (Shape.Idx.first h_S_)) (fun k : Fin 256 => y (ix3 h s k)) Finset.univ := by
  pointwise

theorem v11_at : (val_main_v11 (F := Ideal) x1 x2 (ix2 h s) : EReal) = top (qRow (Pr x1) h s) (kMat (Kr x2) h) := by
  unfold val_main_v11
  rw [reduceMax_at]
  simp only [v10_at]
  rfl

theorem fold_max_ge (z : EReal) (f : Fin 256 → EReal) : max z (Finset.fold max z f Finset.univ) = Finset.fold max z f Finset.univ :=
  max_eq_right ((Finset.le_fold_max z).mpr (Or.inl le_rfl))

theorem v18_at : (val_main_v18 (F := Ideal) x1 x2 (ix2 h s) : EReal) = top (qRow (Pr x1) h s) (kMat (Kr x2) h) := by
  rw [val_main_v18_apply, v11_at, val_main_v17_apply, val_main_cst_2_apply]
  exact fold_max_ge _ _
theorem v31_at : (val_main_v31 (F := Ideal) x1 x2 (ix3 h s m) : EReal) = ex (qRow (Pr x1) h s) (kMat (Kr x2) h) m := by
  rw [val_main_v31_apply, val_main_v30_apply, val_main_v29_apply, idx29, val_main_v28_apply, idx28, v10_at, v18_at]
  rfl

theorem v6_at : (val_main_v6 (F := Ideal) x2 (ix3 m h x) : EReal) = vMat (Kr x2) h m x := by
  pointwise [val_main_v6, val_main_v4, val_main_v2, vMat, Kr]
  blk_ext
theorem v1_at : (val_main_v1 (F := Ideal) x1 (ix2 s (col h x)) : EReal) = zRow (Pr x1) h s x := by
  unfold col
  pointwise [val_main_v1, zRow, Pr]
  blk_ext
theorem v33_at : (val_main_v33 (F := Ideal) x1 x2 (ix3 h s (0 : Fin 1)) : EReal) = den (qRow (Pr x1) h s) (kMat (Kr x2) h) := by
  rw [val_main_v33_apply, idx33, val_main_v32_apply, val_main_cst_8_apply]
  simp only [idx32, v31_at]
  exact (congrArg (· + _) Ideal.ofBits_zero_f32).trans (zero_add _)
theorem v35_at : (val_main_v35 (F := Ideal) x1 x2 (ix3 h s m) : EReal) = prob (qRow (Pr x1) h s) (kMat (Kr x2) h) m := by
  rw [val_main_v35_apply, val_main_v34_apply, idx34, v31_at, v33_at]
  rfl
theorem v38_at : (val_main_v38 (F := Ideal) x1 x2 (ix3 h s (0 : Fin 1)) : EReal) =
    Ideal.div (Ideal.ofBits .f32 0x3F800000#32) (den (qRow (Pr x1) h s) (kMat (Kr x2) h) * den (qRow (Pr x1) h s) (kMat (Kr x2) h)) := by
  rw [val_main_v38_apply, val_main_v37_apply, val_main_cst_9_apply, val_main_v36_apply, v33_at]
  rfl
theorem v41_at : (val_main_v41 (F := Ideal) x1 x2 (ix2 s (col h x)) : EReal) = ∑ m, vMat (Kr x2) h m x * prob (qRow (Pr x1) h s) (kMat (Kr x2) h) m := by
  rw [val_main_v41_apply, idx41, val_main_v40_apply, idx40, val_main_v39_apply]
  simp only [lidx39, ridx39, v6_at, v35_at]
theorem v42_2_at : (val_main_v42_2 (F := Ideal) x1 (ix2 s (col h x)) : EReal) = sgR (zRow (Pr x1) h s x) := by
  rw [val_main_v42_2_apply, val_main_call0_v4_apply, val_main_call0_cst_0_apply, val_main_call0_v3_apply, val_main_call0_v2_apply,
    val_main_call0_cst_apply, val_main_call0_v1_apply, val_main_call0_v0_apply, v1_at]
  rfl
theorem v45_at : (val_main_v45 (F := Ideal) x0 x1 (ix2 s (col h x)) : EReal) = gatedR (dRow (Dr x0) h s) (zRow (Pr x1) h s) x := by
  rw [val_main_v45_apply, val_main_v42_0_apply, v1_at, v42_2_at]
  rfl
theorem v46_at : (val_main_v46 (F := Ideal) x0 x1 x2 (ix2 s (col h x)) : EReal) = rowZR (qRow (Pr x1) h s) (kMat (Kr x2) h) (vMat (Kr x2) h) (dRow (Dr x0) h s) (zRow (Pr x1) h s) x := by
  rw [val_main_v46_apply, val_main_call1_v1_apply, val_main_call1_v2_apply, val_main_call1_v0_apply, val_main_v44_apply,
    val_main_v42_1_apply, val_main_call0_v7_apply, val_main_call0_v6_apply, val_main_call0_cst_1_apply, v1_at, v42_2_at, v41_at]
  rfl
theorem v48_at : (val_main_v48 (F := Ideal) x0 x1 (ix3 h x s) : EReal) = gatedR (dRow (Dr x0) h s) (zRow (Pr x1) h s) x := by
  rw [val_main_v48_apply, idx48, val_main_v47_apply, idx47, v45_at]
theorem v49_at : (val_main_v49 (F := Ideal) x0 x1 x2 (ix3 h s m) : EReal) = dprobR (vMat (Kr x2) h) (dRow (Dr x0) h s) (zRow (Pr x1) h s) m := by
  rw [val_main_v49_apply]
  simp only [lidx49, ridx49, v48_at, v6_at]
  rfl
theorem v57_at : (val_main_v57 (F := Ideal) x0 x1 x2 (ix3 h s (0 : Fin 1)) : EReal) =
    -(∑ n, dprobR (vMat (Kr x2) h) (dRow (Dr x0) h s) (zRow (Pr x1) h s) n * Ideal.div (Ideal.ofBits .f32 0x3F800000#32) (den (qRow (Pr x1) h s) (kMat (Kr x2) h) * den (qRow (Pr x1) h s) (kMat (Kr x2) h)) * ex (qRow (Pr x1) h s) (kMat (Kr x2) h) n) := by
  rw [val_main_v57_apply, val_main_v56_apply, idx56, val_main_v55_apply, val_main_cst_10_apply]
  simp only [idx55, val_main_v54_apply, val_main_v53_apply, v49_at, val_main_v52_apply, idx52, v38_at, v31_at]
  exact congrArg Neg.neg ((congrArg (· + _) Ideal.ofBits_zero_f32).trans (zero_add _))
theorem v61_at : (val_main_v61 (F := Ideal) x0 x1 x2 (ix3 h s m) : EReal) =
    -(∑ n, dprobR (vMat (Kr x2) h) (dRow (Dr x0) h s) (zRow (Pr x1) h s) n * Ideal.div (Ideal.ofBits .f32 0x3F800000#32) (den (qRow (Pr x1) h s) (kMat (Kr x2) h) * den (qRow (Pr x1) h s) (kMat (Kr x2) h)) * ex (qRow (Pr x1) h s) (kMat (Kr x2) h) n) := by
  rw [val_main_v61_apply, idx61, val_main_v60_apply, val_main_cst_11_apply, Fin.sum_univ_one, idx60, v57_at]
  exact (congrArg (· + _) Ideal.ofBits_zero_f32).trans (zero_add _)
theorem v65_at : (val_main_v65 (F := Ideal) x0 x1 x2 (ix3 h s m) : EReal) = dscoreR (qRow (Pr x1) h s) (kMat (Kr x2) h) (vMat (Kr x2) h) (dRow (Dr x0) h s) (zRow (Pr x1) h s) m := by
  rw [val_main_v65_apply, val_main_v63_apply, val_main_v62_apply, val_main_v59_apply, val_main_v58_apply, idx58, val_main_v64_apply,
    val_main_cst_12_apply, v61_at, v49_at, v33_at, v31_at]
  rfl
/-- The reference's gradient into the query. -/
theorem v74_at : (val_main_v74 (F := Ideal) x0 x1 x2 (ix2 s (col h x)) : EReal) = ∑ m, dscoreR (qRow (Pr x1) h s) (kMat (Kr x2) h) (vMat (Kr x2) h) (dRow (Dr x0) h s) (zRow (Pr x1) h s) m * kMat (Kr x2) h m x := by
  rw [val_main_v74_apply, val_main_v70_apply, idx70, val_main_v69_apply, idx69, val_main_v68_apply]
  simp only [lidx68, ridx68, v65_at, v5_at]
  rfl
/-- The reference's gradient into the gate. -/
theorem v75_at : (val_main_v75 (F := Ideal) x0 x1 x2 (ix2 s (col h x)) : EReal) = rowZR (qRow (Pr x1) h s) (kMat (Kr x2) h) (vMat (Kr x2) h) (dRow (Dr x0) h s) (zRow (Pr x1) h s) x := by
  rw [val_main_v75_apply, v46_at]
  rfl
/-- The reference's gradient into the keys. -/
theorem v72_at : (val_main_v72 (F := Ideal) x0 x1 x2 (ix2 m (col h x)) : EReal) =
    ∑ s, dscoreR (qRow (Pr x1) h s) (kMat (Kr x2) h) (vMat (Kr x2) h) (dRow (Dr x0) h s) (zRow (Pr x1) h s) m * qRow (Pr x1) h s x := by
  rw [val_main_v72_apply, idx72, val_main_v67_apply, idx67, val_main_v66_apply]
  simp only [lidx66, ridx66, v65_at, v7_at]
/-- The reference's gradient into the values. -/
theorem v71_at : (val_main_v71 (F := Ideal) x0 x1 x2 (ix2 m (col h x)) : EReal) =
    ∑ s, gatedR (dRow (Dr x0) h s) (zRow (Pr x1) h s) x * prob (qRow (Pr x1) h s) (kMat (Kr x2) h) m := by
  rw [val_main_v71_apply, idx71, val_main_v51_apply, idx51, val_main_v50_apply]
  simp only [lidx50, ridx50, v48_at, v35_at]

end Cert.ReferenceIdeal.Ref
end
-- ==== Proof.Real.lean ====
module
public import proofs.«01_k».proof.Proof.Ref

/-! On rows of real numbers the kernel's and the reference's row formulas give the same. -/

@[expose] public section
set_option maxRecDepth 16384
noncomputable section
open Idealize.ShloMosaic Idealize.ShloMosaic.TcCoe Idealize.SL.Sem
namespace Cert.AttnRow
open Cert.ReferenceIdeal.Ref

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]
theorem IsReal.sum {ι : Type} [Fintype ι] {f : ι → EReal} (h : ∀ i, IsReal (f i)) : IsReal (∑ i, f i) := by
  choose g hg using h
  exact ⟨∑ i, g i, by rw [coe_sum]; exact Finset.sum_congr rfl fun i _ => hg i⟩
theorem IsReal.sg {z : EReal} (h : IsReal z) : IsReal (sg z) := by
  obtain ⟨a, rfl⟩ := h; exact ⟨_, Ideal.logistic_coe a⟩

theorem scl_real : IsReal scl := by
  unfold scl IsReal
  simp only [Ideal.ofBits, Ideal.ieee]
  exact ⟨_, rfl⟩
theorem lowest_eq : lowest = ⊥ := by
  unfold lowest
  simp [Ideal.ofBits, Ideal.ieee]

theorem sgR_eq (z : EReal) : sgR z = sg z := by
  unfold sgR sg Ideal.logistic
  rw [Ideal.ofBits_one_f32]
theorem gatedR_eq (d z : Fin 512 → EReal) : gatedR d z = gated d z := by
  funext x; unfold gatedR gated; rw [sgR_eq]
theorem dprobR_eq (v : Fin 256 → Fin 512 → EReal) (d z : Fin 512 → EReal) : dprobR v d z = dprob v d z := by
  funext x; unfold dprobR dprob; rw [gatedR_eq]

section
variable {q : Fin 512 → EReal} {k v : Fin 256 → Fin 512 → EReal} {d z : Fin 512 → EReal}

theorem score_real (hq : ∀ x, IsReal (q x)) (hk : ∀ m x, IsReal (k m x)) (m : Fin 256) : IsReal (score q k m) :=
  (IsReal.sum fun x => (hq x).mul (hk m x)).mul scl_real
theorem top_real (hq : ∀ x, IsReal (q x)) (hk : ∀ m x, IsReal (k m x)) : IsReal (top q k) := by
  have hs := score_real hq hk
  have h1 : top q k < ⊤ := by
    rw [top, Finset.fold_max_lt, lowest_eq]
    exact ⟨bot_lt_top, fun x _ => by obtain ⟨r, hr⟩ := hs x; rw [hr]; exact EReal.coe_lt_top r⟩
  have h0 : ⊥ < top q k := by
    rw [top, Finset.lt_fold_max]
    exact .inr ⟨0, Finset.mem_univ _, by obtain ⟨r, hr⟩ := hs 0; rw [hr]; exact EReal.bot_lt_coe r⟩
  exact ⟨(top q k).toReal, (EReal.coe_toReal h1.ne h0.ne').symm⟩
/-- The exponentials of a row are positive reals. -/
theorem ex_pos (hq : ∀ x, IsReal (q x)) (hk : ∀ m x, IsReal (k m x)) (m : Fin 256) :
    ∃ r : ℝ, 0 < r ∧ ex q k m = (r : EReal) := by
  obtain ⟨r, hr⟩ := (score_real hq hk m).sub (top_real hq hk)
  exact ⟨_, Real.exp_pos r, by unfold ex; rw [hr]; rfl⟩
theorem dprob_real (hv : ∀ m x, IsReal (v m x)) (hd : ∀ x, IsReal (d x)) (hz : ∀ x, IsReal (z x)) (m : Fin 256) :
    IsReal (dprob v d z m) :=
  IsReal.sum fun x => ((hd x).mul ((hz x).mul (hz x).sg)).mul (hv m x)

/-- The gradient into the scores: division by the sum taken out of the kernel's inner sum. -/
theorem dscoreR_eq (hq : ∀ x, IsReal (q x)) (hk : ∀ m x, IsReal (k m x)) (hv : ∀ m x, IsReal (v m x)) (hd : ∀ x, IsReal (d x))
    (hz : ∀ x, IsReal (z x)) (m : Fin 256) : dscoreR q k v d z m = dscore q k v d z m := by
  choose e he0 he using ex_pos hq hk
  choose δ hδ using dprob_real hv hd hz
  obtain ⟨c, hc⟩ := scl_real
  have hL : 0 < ∑ n, e n := Finset.sum_pos (fun n _ => he0 n) ⟨0, Finset.mem_univ _⟩
  have hden : ∑ n, ex q k n = ((∑ n, e n : ℝ) : EReal) := by
    rw [coe_sum]; exact Finset.sum_congr rfl fun n _ => he n
  unfold dscoreR dscore prob den
  rw [hden, dprobR_eq, hc, Ideal.ofBits_one_f32]
  generalize (∑ n, e n : ℝ) = L at hL
  rw [← EReal.coe_mul]
  simp only [Ideal.div_coe hL.ne', Ideal.div_coe (mul_pos hL hL).ne', he, hδ, one_mul, ← EReal.coe_mul, ← coe_sum, ← EReal.coe_neg,
    ← EReal.coe_add, ← EReal.coe_sub]
  have h1 : ∑ n, δ n * (1 / (L * L)) * e n = (∑ n, δ n * e n) * (1 / (L * L)) := by
    rw [Finset.sum_mul]; exact Finset.sum_congr rfl fun n _ => by ring
  have h2 : ∑ n, e n * (1 / L) * δ n = (∑ n, δ n * e n) * (1 / L) := by
    rw [Finset.sum_mul]; exact Finset.sum_congr rfl fun n _ => by ring
  rw [h1, h2]
  congr 1
  field_simp
  ring
theorem prob_real (hq : ∀ x, IsReal (q x)) (hk : ∀ m x, IsReal (k m x)) (m : Fin 256) : IsReal (prob q k m) := by
  choose e he0 he using ex_pos hq hk
  have hL : 0 < ∑ n, e n := Finset.sum_pos (fun n _ => he0 n) ⟨0, Finset.mem_univ _⟩
  have hden : ∑ n, ex q k n = ((∑ n, e n : ℝ) : EReal) := by
    rw [coe_sum]; exact Finset.sum_congr rfl fun n _ => he n
  refine ⟨e m * (1 / ∑ n, e n), ?_⟩
  unfold prob
  rw [hden, Ideal.div_coe hL.ne', he, EReal.coe_mul]
/-- The gradient into the gate. -/
theorem rowZR_eq (hq : ∀ x, IsReal (q x)) (hk : ∀ m x, IsReal (k m x)) (hv : ∀ m x, IsReal (v m x)) (hd : ∀ x, IsReal (d x))
    (hz : ∀ x, IsReal (z x)) (x : Fin 512) : rowZR q k v d z x = rowZ q k v d z x := by
  have ho : ∑ m, v m x * prob q k m = ∑ m, prob q k m * v m x := Finset.sum_congr rfl fun m _ => mul_comm _ _
  obtain ⟨o, h1⟩ := IsReal.sum fun m => (prob_real hq hk m).mul (hv m x)
  obtain ⟨s, h2⟩ := (hz x).sg
  obtain ⟨δ, h3⟩ := hd x
  obtain ⟨ζ, h4⟩ := hz x
  unfold rowZR rowZ outd
  rw [ho, sgR_eq, h1, h2, h3, h4, Ideal.ofBits_one_f32]
  norm_cast
  congr 1
  ring
end

end Cert.AttnRow
end
-- ==== Proof.Finite.lean ====
module
public import proofs.«01_k».proof.Proof.Memory
public import proofs.«01_k».proof.Proof.Real
public import proofs.«01_k».proof.Defs

/-! What the precondition gives: every entry the programs read is a real number. -/

@[expose] public section
set_option maxRecDepth 16384
noncomputable section
open Idealize.ShloMosaic Idealize.ShloMosaic.TcCoe Idealize.SL.Sem
namespace Cert.Pre_finite

/-- The predicate's side conditions. -/
instance facts : Cert.Pre_finite.Facts where
  slices_S8192x26624_S8192x4096_0_16384 := by decide
  bcast_S_S8192x2048 := by decide
  bcast_S_S8192x4096 := by decide
  bitsLt_bf16_f32 := by decide
  bcast_S_S256x4096 := by decide

open Cert.AttnRow

/-- A magnitude below infinity is a real number's. -/
theorem real_of_lt {x : EReal} (h : BitVec.ofBool (decide (max x (-x) < Ideal.ofBits .f32 0x7F800000#32)) = 1#1) : IsReal x := by
  have hi : Ideal.ofBits .f32 0x7F800000#32 = ⊤ := by simp [Ideal.ofBits, Ideal.ieee]
  rw [hi] at h
  induction x using EReal.rec with
  | bot => exact absurd h (by simp)
  | top => exact absurd h (by simp)
  | coe r => exact ⟨r, rfl⟩

end Cert.Pre_finite

namespace Cert.KernelIdeal.Blocks
open Cert.KernelIdeal Cert.KernelIdeal.Gen Cert.AttnRow

variable (m : (ℓ : Loc nD τ sig) → Buf (Elt Ideal) ℓ) (c : Dev nD)

theorem real_d (h : Cert.Pre_KernelIdeal_finite m) (s : Fin 8192) (x : Fin 2048) : IsReal (Da m c s x) :=
  Cert.Pre_finite.real_of_lt (congrFun (h c).1 (ix2 s x))
theorem real_p (h : Cert.Pre_KernelIdeal_finite m) (s : Fin 8192) (x : Fin 4096) : IsReal (Pa m c s ⟨16384 + x.val, by omega⟩) := by
  have e : IsReal _ := Cert.Pre_finite.real_of_lt (congrFun (h c).2.1 (ix2 s x))
  have hy : ∀ y : S8192x26624.Idx, y = ix2 s ⟨16384 + x.val, by omega⟩ →
      IsReal (m ((c : Thread nD τ).loc main_arg1) y) → IsReal (Pa m c s ⟨16384 + x.val, by omega⟩) := by
    rintro _ rfl h; exact h
  refine hy _ ?_ e
  blk_ext <;> rfl
theorem real_k (h : Cert.Pre_KernelIdeal_finite m) (s : Fin 256) (x : Fin 4096) : IsReal (Ka m c s x) :=
  Cert.Pre_finite.real_of_lt (congrFun (h c).2.2 (ix2 s x))

/-! The reference's results, at the kernel's initial memory, are the kernel's closed forms. -/

section
open Cert.ReferenceIdeal.Read Cert.ReferenceIdeal.Ref
variable (hf : Cert.Pre_KernelIdeal_finite m) (h : Fin 4) (s : Fin 8192)
include hf

theorem real_q (x : Fin 512) : IsReal (qRow (Pa m c) h s x) := by
  have e := real_p m c hf s ⟨512 * h.val + x.val, by omega⟩
  simpa only [qRow, ← Nat.add_assoc] using e
theorem real_z (x : Fin 512) : IsReal (zRow (Pa m c) h s x) := by
  have e := real_p m c hf s ⟨2048 + 512 * h.val + x.val, by omega⟩
  simpa only [zRow, ← Nat.add_assoc, Nat.reduceAdd] using e
theorem real_kMat (n : Fin 256) (x : Fin 512) : IsReal (kMat (Ka m c) h n x) := real_k m c hf n _
theorem real_vMat (n : Fin 256) (x : Fin 512) : IsReal (vMat (Ka m c) h n x) := real_k m c hf n _
theorem real_dRow (x : Fin 512) : IsReal (dRow (Da m c) h s x) := real_d m c hf s _

theorem ref_ds (n : Fin 256) :
    dscoreR (qRow (Pa m c) h s) (kMat (Ka m c) h) (vMat (Ka m c) h) (dRow (Da m c) h s) (zRow (Pa m c) h s) n =
      dscore (qRow (Pa m c) h s) (kMat (Ka m c) h) (vMat (Ka m c) h) (dRow (Da m c) h s) (zRow (Pa m c) h s) n :=
  dscoreR_eq (real_q m c hf h s) (real_kMat m c hf h) (real_vMat m c hf h) (real_dRow m c hf h s) (real_z m c hf h s) n
theorem ref_rowZ (x : Fin 512) :
    rowZR (qRow (Pa m c) h s) (kMat (Ka m c) h) (vMat (Ka m c) h) (dRow (Da m c) h s) (zRow (Pa m c) h s) x =
      outZ (Da m c) (Pa m c) (Ka m c) h s x :=
  rowZR_eq (real_q m c hf h s) (real_kMat m c hf h) (real_vMat m c hf h) (real_dRow m c hf h s) (real_z m c hf h s) x
omit hf
theorem col_eq (n : Fin 2048) : n = col (head n.val) (lane n.val) := by
  apply Fin.ext; simp only [col, head, lane]; omega
include hf

theorem ref_q : (val_main_v74 (F := Ideal) (m ((c : Thread nD τ).loc main_arg0)) (m ((c : Thread nD τ).loc main_arg1)) (m ((c : Thread nD τ).loc main_arg2)) : S8192x2048.Idx → EReal) =
    fun y => outQ (Da m c) (Pa m c) (Ka m c) (head (y 1).val) (y 0) (lane (y 1).val) := by
  funext y
  have hy : y = ix2 (y 0) (col (head (y 1).val) (lane (y 1).val)) :=
    ((ix2_eta y).symm.trans (congrArg (ix2 (y 0)) (col_eq (y 1))))
  refine (congrArg _ hy).trans ((v74_at _ _ _ _ _ _).trans ?_)
  exact Finset.sum_congr rfl fun n _ => congrArg (· * _) (ref_ds m c hf _ _ n)
theorem ref_z : (val_main_v75 (F := Ideal) (m ((c : Thread nD τ).loc main_arg0)) (m ((c : Thread nD τ).loc main_arg1)) (m ((c : Thread nD τ).loc main_arg2)) : S8192x2048.Idx → EReal) =
    fun y => outZ (Da m c) (Pa m c) (Ka m c) (head (y 1).val) (y 0) (lane (y 1).val) := by
  funext y
  have hy : y = ix2 (y 0) (col (head (y 1).val) (lane (y 1).val)) :=
    ((ix2_eta y).symm.trans (congrArg (ix2 (y 0)) (col_eq (y 1))))
  refine (congrArg _ hy).trans ((v75_at _ _ _ _ _ _).trans ?_)
  exact ref_rowZ m c hf _ _ _
theorem ref_kv : (val_main_v73 (F := Ideal) (m ((c : Thread nD τ).loc main_arg0)) (m ((c : Thread nD τ).loc main_arg1)) (m ((c : Thread nD τ).loc main_arg2)) : S256x4096.Idx → EReal) =
    fun y => ∑ s : Fin 8192, part (Da m c) (Pa m c) (Ka m c) s (y 0) (y 1).val := by
  funext y
  have h1 : (y 1).val < 4096 := (y 1).isLt
  unfold val_main_v73
  by_cases hn : (y 1).val < 2048
  · refine (concatenate_pair_apply_left (s₁ := S256x2048) (s₂ := S256x2048) 1 _ _ _ y rfl (ix2 (y 0) ⟨(y 1).val, hn⟩) ?_).trans ?_
    · intro b; fin_cases b <;> rfl
    refine (congrArg (fun n => val_main_v72 (F := Ideal) _ _ _ (ix2 (y 0) n)) (col_eq ⟨(y 1).val, hn⟩)).trans ((v72_at _ _ _ _ _ _).trans ?_)
    refine Finset.sum_congr rfl fun s _ => ?_
    refine Eq.trans ?_ (if_pos hn).symm
    exact congrArg (· * _) (ref_ds m c hf _ _ _)
  · refine (concatenate_pair_apply_right (s₁ := S256x2048) (s₂ := S256x2048) 1 _ _ _ y rfl rfl (ix2 (y 0) ⟨(y 1).val - 2048, by omega⟩) ?_ ?_).trans ?_
    · intro b hb; fin_cases b
      · rfl
      · exact absurd rfl hb
    · exact Nat.sub_add_cancel (Nat.le_of_not_lt hn)
    refine (congrArg (fun n => val_main_v71 (F := Ideal) _ _ _ (ix2 (y 0) n)) (col_eq ⟨(y 1).val - 2048, by omega⟩)).trans ((v71_at _ _ _ _ _ _).trans ?_)
    refine Finset.sum_congr rfl fun s _ => ?_
    refine Eq.trans ?_ (if_neg hn).symm
    rw [gatedR_eq]
    have e1 : head ((y 1).val - 2048) = head (y 1).val := by apply Fin.ext; simp only [head]; omega
    have e2 : lane ((y 1).val - 2048) = lane (y 1).val := by apply Fin.ext; simp only [lane]; omega
    dsimp only
    rw [e1, e2]
    exact mul_comm _ _
end

end Cert.KernelIdeal.Blocks
end
-- ==== Proof.MainInput.lean ====
module
public import proofs.«01_k».proof.Proof.Gen.Kernel2Ideal.Value
public import proofs.«01_k».proof.Proof.Gen.Reference2Ideal.Read
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! The gradient of the main projection into its input: a product accumulated over thirteen blocks of columns. -/

@[expose] public section
set_option maxRecDepth 16384
noncomputable section
open Idealize.ShloMosaic Idealize.ShloMosaic.TcCoe Idealize.SL.Sem
namespace Cert.MainInput
open Cert.Kernel2Ideal Cert.Kernel2Ideal.Gen

variable (m : (ℓ : Loc nD τ sig) → Buf (Elt Ideal) ℓ)

/-- The block each window takes at a point. -/
theorem idx : ∀ t : Fin cfg0.N, win0_0.index t = ![t.val / 26, t.val % 13] ∧ win0_1.index t = ![t.val / 13 % 2, t.val % 13] ∧
    win0_2.index t = ![t.val / 26, t.val / 13 % 2] := (by decide +kernel : ∀ t : Fin grid0.N, _)

/-- The left operand, by row and column. -/
def lhs (c : Dev nD) : Fin 8192 → Fin 26624 → EReal := fun s x => m ((c : Thread nD τ).loc main_arg0) (ix2 s x)
/-- The right operand, by row and column. -/
def rhs (c : Dev nD) : Fin 2048 → Fin 26624 → EReal := fun s x => m ((c : Thread nD τ).loc main_arg1) (ix2 s x)

/-- The product of two tiles. -/
theorem pay (a b : FVec Ideal S1024x2048 .bf16) (r s : Fin 1024) :
    (k0_pay1 (F := Ideal) a b (ix2 r s) : EReal) = ∑ k : Fin 2048, a (ix2 r k) * b (ix2 s k) := by
  pointwise [k0_pay1]

/-- What a point adds to the accumulator. -/
def term (c : Dev nD) (t : Fin cfg0.N) (y : S1024x1024.Idx) : EReal :=
  ∑ k : Fin 2048, lhs m c ⟨1024 * (t.val / 26) + (y 0).val, by have : t.val < 208 := t.isLt; have : (y 0).val < 1024 := (y 0).isLt; omega⟩ ⟨2048 * (t.val % 13) + k.val, by omega⟩
    * rhs m c ⟨1024 * (t.val / 13 % 2) + (y 1).val, by have : (y 1).val < 1024 := (y 1).isLt; omega⟩ ⟨2048 * (t.val % 13) + k.val, by omega⟩

/-- The product of a point's blocks. -/
theorem pay_blk (c : Dev nD) (t : Fin cfg0.N) (y : S1024x1024.Idx) :
    (k0_pay1 (F := Ideal) (iblk m c 0 t) (iblk m c 1 t) y : EReal) = term m c t y := by
  obtain ⟨r, s, rfl⟩ : ∃ r s : Fin 1024, y = ix2 r s := ⟨y 0, y 1, by blk_ext⟩
  rw [pay]
  unfold term lhs rhs
  refine Finset.sum_congr rfl fun k _ => ?_
  congr 1
  all_goals blk_point [iblk, V, idx t]

/-- The first point of a run starts the accumulator. -/
theorem first (c : Dev nD) (t : Fin cfg0.N) (h : t.val % 13 = 0) (y : S1024x1024.Idx) :
    ((outsAt0 m c t.val t.isLt).2 y : EReal) = 0 + term m c t y := by
  rw [outsAt0_A m c t h (by omega) (by omega)]
  frame_out
  rw [zero_add, ← pay_blk]
  pointwise [k0_pay2]

/-- Every later point adds to it. -/
theorem next (c : Dev nD) (t : Fin cfg0.N) (h : ¬t.val % 13 = 0) (y : S1024x1024.Idx) :
    ((outsAt0 m c t.val t.isLt).2 y : EReal) = (outsAt0 m c (t.val - 1) (Nat.lt_of_le_of_lt (Nat.sub_le _ _) t.isLt)).2 y + term m c t y := by
  by_cases hl : t.val % 13 = 12
  on_goal 1 => rw [outsAt0_C m c t h (by omega) hl]
  on_goal 2 => rw [outsAt0_B m c t h (by omega) hl]
  all_goals frame_out
  all_goals generalize (outsAt0 m c (t.val - 1) _).2 = prev
  all_goals rw [← pay_blk]
  all_goals pointwise [k0_pay3]
  all_goals rw [read_unread_whole]

/-- The last point of a run writes the accumulator out. -/
theorem last (c : Dev nD) (t : Fin cfg0.N) (h : t.val % 13 = 12) (y : S1024x1024.Idx) :
    ((outsAt0 m c t.val t.isLt).1 y : EReal) = (outsAt0 m c t.val t.isLt).2 y := by
  rw [outsAt0_C m c t (by omega) (by omega) h]
  frame_out

/-- The result, in closed form. -/
theorem arr (c : Dev nD) : (dats m 0 c).arrAt 2 cfg0.N = fun y => ∑ k : Fin 26624, lhs m c (y 0) k * rhs m c (y 1) k := by
  refine (dats m 0 c).arrAt_eq_of_covers 2 _ (by decide +kernel) fun t hf y => ?_
  have ht := (flush0_2 t).mp hf
  blk_simp [idx t]
  rw [after0_2, last m c t ht, Pipeline.eq_sum_fin_of_reset_step_apply_of_flush (fun n h => (outsAt0 m c n h).2) 13 (fun _ => 0) (term m c)
    (first m c) (next m c) t ht _, zero_add]
  refine Fin.sum_mul_add_congr fun s k hl => ?_
  have hs : (13 * (t.val / 13) + s.val) / 13 = t.val / 13 ∧ (13 * (t.val / 13) + s.val) / 26 = t.val / 26 ∧ (13 * (t.val / 13) + s.val) % 13 = s.val := by omega
  refine congr (congrArg _ (congr (congrArg _ ?_) ?_)) (congr (congrArg _ ?_) ?_)
  all_goals apply Fin.ext
  on_goal 1 => blk_simp [idx t]
  on_goal 3 => blk_simp [idx t]
  all_goals dsimp only
  all_goals omega

/-- The reference's gradient, in closed form. -/
theorem ref (c : Dev nD) : (Cert.Reference2Ideal.Read.val_main_v4 (F := Ideal) (m ((c : Thread nD τ).loc main_arg0)) (m ((c : Thread nD τ).loc main_arg1)) : S8192x2048.Idx → EReal) =
    fun y => ∑ k : Fin 26624, lhs m c (y 0) k * rhs m c (y 1) k := by
  funext y
  rw [Cert.Reference2Ideal.Read.val_main_v4_apply]
  refine Finset.sum_congr rfl fun k _ => ?_
  rw [Cert.Reference2Ideal.Read.val_main_v3_apply, Cert.Reference2Ideal.Read.val_main_v0_apply]
  unfold lhs rhs
  congr 1
  · exact congrArg _ (by blk_ext)
  · exact congrArg _ (by blk_ext)

/-- The kernel ends with the reference's gradient in its output. -/
theorem algebraic : Cert.algebraic_Kernel2Ideal_Reference2Ideal := by
  intro m g m' g' _ he
  refine ⟨fun c => (dats m 0 c).arrAt 2 cfg0.N, Cert.Kernel2Ideal.Value.run_blocks m g, ?_⟩
  refine (θ_run Cert.Reference2Ideal.defs _ _).mono (fun r h c => ⟨(h c).1.trans ?_, (h c).2⟩) (Cert.Reference2Ideal.Value.run m' g')
  rw [Cert.Reference2Ideal.Read.val_main_v4_eq, (he c).1, (he c).2]
  exact (ref m c).trans (arr m c).symm

/-- The reference ends with its arguments as they were; it declares no semaphore. -/
theorem frame : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

end Cert.MainInput
end
-- ==== Proof.MainWeight.lean ====
module
public import proofs.«01_k».proof.Proof.Gen.Kernel3Ideal.Value
public import proofs.«01_k».proof.Proof.Gen.Reference3Ideal.Read
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! The gradient of the main projection into its weight: a product accumulated over four blocks of rows. -/

@[expose] public section
set_option maxRecDepth 16384
noncomputable section
open Idealize.ShloMosaic Idealize.ShloMosaic.TcCoe Idealize.SL.Sem
namespace Cert.MainWeight
open Cert.Kernel3Ideal Cert.Kernel3Ideal.Gen

variable (m : (ℓ : Loc nD τ sig) → Buf (Elt Ideal) ℓ)

/-- The block each window takes at a point. -/
theorem idx : ∀ t : Fin cfg0.N, win0_0.index t = ![t.val % 4, 0] ∧ win0_1.index t = ![t.val % 4, t.val / 4] ∧
    win0_2.index t = ![0, t.val / 4] := (by decide +kernel : ∀ t : Fin grid0.N, _)

/-- The left operand, by row and column. -/
def lhs (c : Dev nD) : Fin 8192 → Fin 2048 → EReal := fun s x => m ((c : Thread nD τ).loc main_arg0) (ix2 s x)
/-- The right operand, by row and column. -/
def rhs (c : Dev nD) : Fin 8192 → Fin 26624 → EReal := fun s x => m ((c : Thread nD τ).loc main_arg1) (ix2 s x)

/-- The product of two tiles. -/
theorem pay (a : FVec Ideal S2048x2048 .bf16) (b : FVec Ideal S2048x1024 .bf16) (r : Fin 2048) (s : Fin 1024) :
    (k0_pay1 (F := Ideal) a b (ix2 r s) : EReal) = ∑ k : Fin 2048, a (ix2 k r) * b (ix2 k s) := by
  pointwise [k0_pay1]

/-- What a point adds to the accumulator. -/
def term (c : Dev nD) (t : Fin cfg0.N) (y : S2048x1024.Idx) : EReal :=
  ∑ k : Fin 2048, lhs m c ⟨2048 * (t.val % 4) + k.val, by omega⟩ ⟨(y 0).val, (y 0).isLt⟩
    * rhs m c ⟨2048 * (t.val % 4) + k.val, by omega⟩ ⟨1024 * (t.val / 4) + (y 1).val, by have : t.val < 104 := t.isLt; have : (y 1).val < 1024 := (y 1).isLt; omega⟩

/-- The product of a point's blocks. -/
theorem pay_blk (c : Dev nD) (t : Fin cfg0.N) (y : S2048x1024.Idx) :
    (k0_pay1 (F := Ideal) (iblk m c 0 t) (iblk m c 1 t) y : EReal) = term m c t y := by
  obtain ⟨r, s, rfl⟩ : ∃ (r : Fin 2048) (s : Fin 1024), y = ix2 r s := ⟨y 0, y 1, by blk_ext⟩
  rw [pay]
  unfold term lhs rhs
  refine Finset.sum_congr rfl fun k _ => ?_
  congr 1
  all_goals blk_point [iblk, V, idx t]

/-- The first point of a run starts the accumulator. -/
theorem first (c : Dev nD) (t : Fin cfg0.N) (h : t.val % 4 = 0) (y : S2048x1024.Idx) :
    ((outsAt0 m c t.val t.isLt).2 y : EReal) = 0 + term m c t y := by
  rw [outsAt0_A m c t h (by omega) (by omega)]
  frame_out
  rw [zero_add, ← pay_blk]
  pointwise [k0_pay2]

/-- Every later point adds to it. -/
theorem next (c : Dev nD) (t : Fin cfg0.N) (h : ¬t.val % 4 = 0) (y : S2048x1024.Idx) :
    ((outsAt0 m c t.val t.isLt).2 y : EReal) = (outsAt0 m c (t.val - 1) (Nat.lt_of_le_of_lt (Nat.sub_le _ _) t.isLt)).2 y + term m c t y := by
  by_cases hl : t.val % 4 = 3
  on_goal 1 => rw [outsAt0_C m c t h (by omega) hl]
  on_goal 2 => rw [outsAt0_B m c t h (by omega) hl]
  all_goals frame_out
  all_goals generalize (outsAt0 m c (t.val - 1) _).2 = prev
  all_goals rw [← pay_blk]
  all_goals pointwise [k0_pay3]
  all_goals rw [read_unread_whole]

/-- The last point of a run writes the accumulator out. -/
theorem last (c : Dev nD) (t : Fin cfg0.N) (h : t.val % 4 = 3) (y : S2048x1024.Idx) :
    ((outsAt0 m c t.val t.isLt).1 y : EReal) = (outsAt0 m c t.val t.isLt).2 y := by
  rw [outsAt0_C m c t (by omega) (by omega) h]
  frame_out
  pointwise [k0_pay4]

/-- The result, in closed form. -/
theorem arr (c : Dev nD) : (dats m 0 c).arrAt 2 cfg0.N = fun y => ∑ k : Fin 8192, lhs m c k (y 0) * rhs m c k (y 1) := by
  refine (dats m 0 c).arrAt_eq_of_covers 2 _ (by decide +kernel) fun t hf y => ?_
  have ht := (flush0_2 t).mp hf
  blk_simp [idx t]
  rw [after0_2, last m c t ht, Pipeline.eq_sum_fin_of_reset_step_apply_of_flush (fun n h => (outsAt0 m c n h).2) 4 (fun _ => 0) (term m c)
    (first m c) (next m c) t ht _, zero_add]
  refine Fin.sum_mul_add_congr fun s k hl => ?_
  have hs : (4 * (t.val / 4) + s.val) / 4 = t.val / 4 ∧ (4 * (t.val / 4) + s.val) % 4 = s.val := by omega
  refine congr (congrArg _ (congr (congrArg _ ?_) ?_)) (congr (congrArg _ ?_) ?_)
  all_goals apply Fin.ext
  on_goal 2 => blk_simp [idx t]
  on_goal 3 => blk_simp [idx t]
  all_goals dsimp only
  all_goals omega

/-- The reference's gradient, in closed form. -/
theorem ref (c : Dev nD) : (Cert.Reference3Ideal.Read.val_main_v6 (F := Ideal) (m ((c : Thread nD τ).loc main_arg0)) (m ((c : Thread nD τ).loc main_arg1)) : S2048x26624.Idx → EReal) =
    fun y => ∑ k : Fin 8192, lhs m c k (y 0) * rhs m c k (y 1) := by
  funext y
  rw [Cert.Reference3Ideal.Read.val_main_v6_apply, Cert.Reference3Ideal.Read.val_main_v5_apply, Cert.Reference3Ideal.Read.val_main_v4_apply]
  refine Finset.sum_congr rfl fun k _ => ?_
  rw [Cert.Reference3Ideal.Read.val_main_v3_apply, Cert.Reference3Ideal.Read.val_main_v0_apply]
  unfold lhs rhs
  refine (mul_comm _ _).trans ?_
  congr 1
  · exact congrArg _ (by blk_ext)
  · exact congrArg _ (by blk_ext)

/-- The kernel ends with the reference's gradient in its output. -/
theorem algebraic : Cert.algebraic_Kernel3Ideal_Reference3Ideal := by
  intro m g m' g' _ he
  refine ⟨fun c => (dats m 0 c).arrAt 2 cfg0.N, Cert.Kernel3Ideal.Value.run_blocks m g, ?_⟩
  refine (θ_run Cert.Reference3Ideal.defs _ _).mono (fun r h c => ⟨(h c).1.trans ?_, (h c).2⟩) (Cert.Reference3Ideal.Value.run m' g')
  rw [Cert.Reference3Ideal.Read.val_main_v6_eq, (he c).1, (he c).2]
  exact (ref m c).trans (arr m c).symm

/-- The reference ends with its arguments as they were; it declares no semaphore. -/
theorem frame : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

end Cert.MainWeight
end
-- ==== Proof.MainProduct.lean ====
module
public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! The main projection: one product of tiles at each point. -/

@[expose] public section
set_option maxRecDepth 16384
noncomputable section
open Idealize.ShloMosaic Idealize.ShloMosaic.TcCoe Idealize.SL.Sem
namespace Cert.MainProduct
open Cert.Kernel4Ideal Cert.Kernel4Ideal.Gen

variable (m : (ℓ : Loc nD τ sig) → Buf (Elt Ideal) ℓ)

/-- The block each window takes at a point. -/
theorem idx : ∀ t : Fin cfg0.N, win0_0.index t = ![t.val / 26, 0] ∧ win0_1.index t = ![0, t.val % 26] ∧
    win0_2.index t = ![t.val / 26, t.val % 26] := (by decide +kernel : ∀ t : Fin grid0.N, _)

/-- The left operand, by row and column. -/
def lhs (c : Dev nD) : Fin 8192 → Fin 2048 → EReal := fun s x => m ((c : Thread nD τ).loc main_arg0) (ix2 s x)
/-- The right operand, by row and column. -/
def rhs (c : Dev nD) : Fin 2048 → Fin 26624 → EReal := fun s x => m ((c : Thread nD τ).loc main_arg1) (ix2 s x)

/-- The product of two tiles. -/
theorem pay (a : FVec Ideal S1024x2048 .bf16) (b : FVec Ideal S2048x1024 .bf16) (r s : Fin 1024) :
    (k0_pay1 (F := Ideal) a b (ix2 r s) : EReal) = ∑ k : Fin 2048, a (ix2 r k) * b (ix2 k s) := by
  pointwise [k0_pay1]

/-- What a point leaves in its block. -/
theorem point (c : Dev nD) (t : Fin cfg0.N) (y : S1024x1024.Idx) :
    (out0_2 (F := Ideal) (iblk m c 0 t) (iblk m c 1 t) y : EReal) =
      ∑ k : Fin 2048, lhs m c ⟨1024 * (t.val / 26) + (y 0).val, by have : t.val < 208 := t.isLt; have : (y 0).val < 1024 := (y 0).isLt; omega⟩ k
        * rhs m c k ⟨1024 * (t.val % 26) + (y 1).val, by have : (y 1).val < 1024 := (y 1).isLt; omega⟩ := by
  obtain ⟨r, s, rfl⟩ : ∃ r s : Fin 1024, y = ix2 r s := ⟨y 0, y 1, by blk_ext⟩
  frame_out
  rw [pay]
  unfold lhs rhs
  refine Finset.sum_congr rfl fun k _ => ?_
  congr 1
  all_goals blk_point [iblk, V, idx t]

/-- The result, in closed form. -/
theorem arr (c : Dev nD) : (dats m 0 c).arrAt 2 cfg0.N = fun y => ∑ k : Fin 2048, lhs m c (y 0) k * rhs m c k (y 1) := by
  refine (dats m 0 c).arrAt_eq_of_covers 2 _ (by decide +kernel) fun t hf y => ?_
  blk_simp [idx t]
  rw [after0_2, point]
  refine Fin.sum_fin_congr fun k => ?_
  refine congr (congrArg _ (congrFun (congrArg _ ?_) _)) (congrArg _ ?_)
  all_goals apply Fin.ext
  all_goals blk_simp [idx t]
  all_goals dsimp only
  all_goals omega

/-- The reference's product, in closed form. -/
theorem ref (c : Dev nD) : (Cert.Reference4Ideal.Read.val_main_v2 (F := Ideal) (m ((c : Thread nD τ).loc main_arg0)) (m ((c : Thread nD τ).loc main_arg1)) : S8192x26624.Idx → EReal) =
    fun y => ∑ k : Fin 2048, lhs m c (y 0) k * rhs m c k (y 1) := by
  funext y
  rw [Cert.Reference4Ideal.Read.val_main_v2_apply]
  refine Finset.sum_congr rfl fun k _ => ?_
  rw [Cert.Reference4Ideal.Read.val_main_v1_apply, Cert.Reference4Ideal.Read.val_main_v0_apply]
  unfold lhs rhs
  congr 1
  · exact congrArg _ (by blk_ext)
  · exact congrArg _ (by blk_ext)

/-- The kernel ends with the reference's product in its output. -/
theorem algebraic : Cert.algebraic_Kernel4Ideal_Reference4Ideal := by
  intro m g m' g' _ he
  refine ⟨fun c => (dats m 0 c).arrAt 2 cfg0.N, Cert.Kernel4Ideal.Value.run_blocks m g, ?_⟩
  refine (θ_run Cert.Reference4Ideal.defs _ _).mono (fun r h c => ⟨(h c).1.trans ?_, (h c).2⟩) (Cert.Reference4Ideal.Value.run m' g')
  rw [Cert.Reference4Ideal.Read.val_main_v2_eq, (he c).1, (he c).2]
  exact (ref m c).trans (arr m c).symm

/-- The reference ends with its arguments as they were; it declares no semaphore. -/
theorem frame : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

end Cert.MainProduct
end
-- ==== Proof.OutInput.lean ====
module
public import proofs.«01_k».proof.Proof.Gen.Kernel5Ideal.Value
public import proofs.«01_k».proof.Proof.Gen.Reference5Ideal.Read
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! The gradient of a branch's projection out into its input: one product of tiles at each point. -/

@[expose] public section
set_option maxRecDepth 16384
noncomputable section
open Idealize.ShloMosaic Idealize.ShloMosaic.TcCoe Idealize.SL.Sem
namespace Cert.OutInput
open Cert.Kernel5Ideal Cert.Kernel5Ideal.Gen

variable (m : (ℓ : Loc nD τ sig) → Buf (Elt Ideal) ℓ)

/-- The block each window takes at a point. -/
theorem idx : ∀ t : Fin cfg0.N, win0_0.index t = ![t.val / 2, 0] ∧ win0_1.index t = ![t.val % 2, 0] ∧
    win0_2.index t = ![t.val / 2, t.val % 2] := (by decide +kernel : ∀ t : Fin grid0.N, _)

/-- The left operand, by row and column. -/
def lhs (c : Dev nD) : Fin 8192 → Fin 2048 → EReal := fun s x => m ((c : Thread nD τ).loc main_arg0) (ix2 s x)
/-- The right operand, by row and column. -/
def rhs (c : Dev nD) : Fin 2048 → Fin 2048 → EReal := fun s x => m ((c : Thread nD τ).loc main_arg1) (ix2 s x)

/-- The product of two tiles. -/
theorem pay (a : FVec Ideal S1024x2048 .bf16) (b : FVec Ideal S1024x2048 .bf16) (r s : Fin 1024) :
    (k0_pay1 (F := Ideal) a b (ix2 r s) : EReal) = ∑ k : Fin 2048, a (ix2 r k) * b (ix2 s k) := by
  pointwise [k0_pay1]

/-- What a point leaves in its block. -/
theorem point (c : Dev nD) (t : Fin cfg0.N) (y : S1024x1024.Idx) :
    (out0_2 (F := Ideal) (iblk m c 0 t) (iblk m c 1 t) y : EReal) =
      ∑ k : Fin 2048, lhs m c ⟨1024 * (t.val / 2) + (y 0).val, by have : t.val < 16 := t.isLt; have : (y 0).val < 1024 := (y 0).isLt; omega⟩ k
        * rhs m c ⟨1024 * (t.val % 2) + (y 1).val, by have : (y 1).val < 1024 := (y 1).isLt; omega⟩ k := by
  obtain ⟨r, s, rfl⟩ : ∃ r s : Fin 1024, y = ix2 r s := ⟨y 0, y 1, by blk_ext⟩
  frame_out
  rw [pay]
  unfold lhs rhs
  refine Finset.sum_congr rfl fun k _ => ?_
  congr 1
  all_goals blk_point [iblk, V, idx t]

/-- The result, in closed form. -/
theorem arr (c : Dev nD) : (dats m 0 c).arrAt 2 cfg0.N = fun y => ∑ k : Fin 2048, lhs m c (y 0) k * rhs m c (y 1) k := by
  refine (dats m 0 c).arrAt_eq_of_covers 2 _ (by decide +kernel) fun t hf y => ?_
  blk_simp [idx t]
  rw [after0_2, point]
  refine Fin.sum_fin_congr fun k => ?_
  refine congr (congrArg _ (congrFun (congrArg _ ?_) _)) (congrFun (congrArg _ ?_) _)
  all_goals apply Fin.ext
  all_goals blk_simp [idx t]
  all_goals dsimp only
  all_goals omega

/-- The reference's gradient, in closed form. -/
theorem ref (c : Dev nD) : (Cert.Reference5Ideal.Read.val_main_v4 (F := Ideal) (m ((c : Thread nD τ).loc main_arg0)) (m ((c : Thread nD τ).loc main_arg1)) : S8192x2048.Idx → EReal) =
    fun y => ∑ k : Fin 2048, lhs m c (y 0) k * rhs m c (y 1) k := by
  funext y
  rw [Cert.Reference5Ideal.Read.val_main_v4_apply]
  refine Finset.sum_congr rfl fun k _ => ?_
  rw [Cert.Reference5Ideal.Read.val_main_v3_apply, Cert.Reference5Ideal.Read.val_main_v0_apply]
  unfold lhs rhs
  congr 1
  · exact congrArg _ (by blk_ext)
  · exact congrArg _ (by blk_ext)

/-- The kernel ends with the reference's gradient in its output. -/
theorem algebraic : Cert.algebraic_Kernel5Ideal_Reference5Ideal := by
  intro m g m' g' _ he
  refine ⟨fun c => (dats m 0 c).arrAt 2 cfg0.N, Cert.Kernel5Ideal.Value.run_blocks m g, ?_⟩
  refine (θ_run Cert.Reference5Ideal.defs _ _).mono (fun r h c => ⟨(h c).1.trans ?_, (h c).2⟩) (Cert.Reference5Ideal.Value.run m' g')
  rw [Cert.Reference5Ideal.Read.val_main_v4_eq, (he c).1, (he c).2]
  exact (ref m c).trans (arr m c).symm

/-- The reference ends with its arguments as they were; it declares no semaphore. -/
theorem frame : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

end Cert.OutInput
end
-- ==== Proof.OutWeight.lean ====
module
public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! The gradient of a branch's projection out into its weight: a product accumulated over four blocks of rows. -/

@[expose] public section
set_option maxRecDepth 16384
noncomputable section
open Idealize.ShloMosaic Idealize.ShloMosaic.TcCoe Idealize.SL.Sem
namespace Cert.OutWeight
open Cert.Kernel6Ideal Cert.Kernel6Ideal.Gen

variable (m : (ℓ : Loc nD τ sig) → Buf (Elt Ideal) ℓ)

/-- The block each window takes at a point. -/
theorem idx : ∀ t : Fin cfg0.N, win0_0.index t = ![t.val % 4, t.val / 8] ∧ win0_1.index t = ![t.val % 4, t.val / 4 % 2] ∧
    win0_2.index t = ![t.val / 8, t.val / 4 % 2] := (by decide +kernel : ∀ t : Fin grid0.N, _)

/-- The left operand, by row and column. -/
def lhs (c : Dev nD) : Fin 8192 → Fin 2048 → EReal := fun s x => m ((c : Thread nD τ).loc main_arg0) (ix2 s x)
/-- The right operand, by row and column. -/
def rhs (c : Dev nD) : Fin 8192 → Fin 2048 → EReal := fun s x => m ((c : Thread nD τ).loc main_arg1) (ix2 s x)

/-- The product of two tiles. -/
theorem pay (a b : FVec Ideal S2048x1024 .bf16) (r s : Fin 1024) :
    (k0_pay1 (F := Ideal) a b (ix2 r s) : EReal) = ∑ k : Fin 2048, a (ix2 k r) * b (ix2 k s) := by
  pointwise [k0_pay1]

/-- What a point adds to the accumulator. -/
def term (c : Dev nD) (t : Fin cfg0.N) (y : S1024x1024.Idx) : EReal :=
  ∑ k : Fin 2048, lhs m c ⟨2048 * (t.val % 4) + k.val, by omega⟩ ⟨1024 * (t.val / 8) + (y 0).val, by have : t.val < 16 := t.isLt; have : (y 0).val < 1024 := (y 0).isLt; omega⟩
    * rhs m c ⟨2048 * (t.val % 4) + k.val, by omega⟩ ⟨1024 * (t.val / 4 % 2) + (y 1).val, by have : (y 1).val < 1024 := (y 1).isLt; omega⟩

/-- The product of a point's blocks. -/
theorem pay_blk (c : Dev nD) (t : Fin cfg0.N) (y : S1024x1024.Idx) :
    (k0_pay1 (F := Ideal) (iblk m c 0 t) (iblk m c 1 t) y : EReal) = term m c t y := by
  obtain ⟨r, s, rfl⟩ : ∃ r s : Fin 1024, y = ix2 r s := ⟨y 0, y 1, by blk_ext⟩
  rw [pay]
  unfold term lhs rhs
  refine Finset.sum_congr rfl fun k _ => ?_
  congr 1
  all_goals blk_point [iblk, V, idx t]

/-- The first point of a run starts the accumulator. -/
theorem first (c : Dev nD) (t : Fin cfg0.N) (h : t.val % 4 = 0) (y : S1024x1024.Idx) :
    ((outsAt0 m c t.val t.isLt).2 y : EReal) = 0 + term m c t y := by
  rw [outsAt0_A m c t h (by omega) (by omega)]
  frame_out
  rw [zero_add, ← pay_blk]
  pointwise [k0_pay2]

/-- Every later point adds to it. -/
theorem next (c : Dev nD) (t : Fin cfg0.N) (h : ¬t.val % 4 = 0) (y : S1024x1024.Idx) :
    ((outsAt0 m c t.val t.isLt).2 y : EReal) = (outsAt0 m c (t.val - 1) (Nat.lt_of_le_of_lt (Nat.sub_le _ _) t.isLt)).2 y + term m c t y := by
  by_cases hl : t.val % 4 = 3
  on_goal 1 => rw [outsAt0_C m c t h (by omega) hl]
  on_goal 2 => rw [outsAt0_B m c t h (by omega) hl]
  all_goals frame_out
  all_goals generalize (outsAt0 m c (t.val - 1) _).2 = prev
  all_goals rw [← pay_blk]
  all_goals pointwise [k0_pay3]
  all_goals rw [read_unread_whole]

/-- The last point of a run writes the accumulator out. -/
theorem last (c : Dev nD) (t : Fin cfg0.N) (h : t.val % 4 = 3) (y : S1024x1024.Idx) :
    ((outsAt0 m c t.val t.isLt).1 y : EReal) = (outsAt0 m c t.val t.isLt).2 y := by
  rw [outsAt0_C m c t (by omega) (by omega) h]
  frame_out
  pointwise [k0_pay4]

/-- The result, in closed form. -/
theorem arr (c : Dev nD) : (dats m 0 c).arrAt 2 cfg0.N = fun y => ∑ k : Fin 8192, lhs m c k (y 0) * rhs m c k (y 1) := by
  refine (dats m 0 c).arrAt_eq_of_covers 2 _ (by decide +kernel) fun t hf y => ?_
  have ht := (flush0_2 t).mp hf
  blk_simp [idx t]
  rw [after0_2, last m c t ht, Pipeline.eq_sum_fin_of_reset_step_apply_of_flush (fun n h => (outsAt0 m c n h).2) 4 (fun _ => 0) (term m c)
    (first m c) (next m c) t ht _, zero_add]
  refine Fin.sum_mul_add_congr fun s k hl => ?_
  have hs : (4 * (t.val / 4) + s.val) / 4 = t.val / 4 ∧ (4 * (t.val / 4) + s.val) / 8 = t.val / 8 ∧ (4 * (t.val / 4) + s.val) % 4 = s.val := by omega
  refine congr (congrArg _ (congr (congrArg _ ?_) ?_)) (congr (congrArg _ ?_) ?_)
  all_goals apply Fin.ext
  on_goal 2 => blk_simp [idx t]
  on_goal 4 => blk_simp [idx t]
  all_goals dsimp only
  all_goals omega

/-- The reference's gradient, in closed form. -/
theorem ref (c : Dev nD) : (Cert.Reference6Ideal.Read.val_main_v6 (F := Ideal) (m ((c : Thread nD τ).loc main_arg0)) (m ((c : Thread nD τ).loc main_arg1)) : S2048x2048.Idx → EReal) =
    fun y => ∑ k : Fin 8192, lhs m c k (y 0) * rhs m c k (y 1) := by
  funext y
  rw [Cert.Reference6Ideal.Read.val_main_v6_apply, Cert.Reference6Ideal.Read.val_main_v5_apply, Cert.Reference6Ideal.Read.val_main_v4_apply]
  refine Finset.sum_congr rfl fun k _ => ?_
  rw [Cert.Reference6Ideal.Read.val_main_v3_apply, Cert.Reference6Ideal.Read.val_main_v0_apply]
  unfold lhs rhs
  refine (mul_comm _ _).trans ?_
  congr 1
  · exact congrArg _ (by blk_ext)
  · exact congrArg _ (by blk_ext)

/-- The kernel ends with the reference's gradient in its output. -/
theorem algebraic : Cert.algebraic_Kernel6Ideal_Reference6Ideal := by
  intro m g m' g' _ he
  refine ⟨fun c => (dats m 0 c).arrAt 2 cfg0.N, Cert.Kernel6Ideal.Value.run_blocks m g, ?_⟩
  refine (θ_run Cert.Reference6Ideal.defs _ _).mono (fun r h c => ⟨(h c).1.trans ?_, (h c).2⟩) (Cert.Reference6Ideal.Value.run m' g')
  rw [Cert.Reference6Ideal.Read.val_main_v6_eq, (he c).1, (he c).2]
  exact (ref m c).trans (arr m c).symm

/-- The reference ends with its arguments as they were; it declares no semaphore. -/
theorem frame : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

end Cert.OutWeight
end
-- ==== Proof.OutProduct.lean ====
module
public import proofs.«01_k».proof.Proof.Gen.Kernel7Ideal.Value
public import proofs.«01_k».proof.Proof.Gen.Reference7Ideal.Read
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! A branch's projection out: one product of tiles at each point. -/

@[expose] public section
set_option maxRecDepth 16384
noncomputable section
open Idealize.ShloMosaic Idealize.ShloMosaic.TcCoe Idealize.SL.Sem
namespace Cert.OutProduct
open Cert.Kernel7Ideal Cert.Kernel7Ideal.Gen

variable (m : (ℓ : Loc nD τ sig) → Buf (Elt Ideal) ℓ)

/-- The block each window takes at a point. -/
theorem idx : ∀ t : Fin cfg0.N, win0_0.index t = ![t.val / 2, 0] ∧ win0_1.index t = ![0, t.val % 2] ∧
    win0_2.index t = ![t.val / 2, t.val % 2] := (by decide +kernel : ∀ t : Fin grid0.N, _)

/-- The left operand, by row and column. -/
def lhs (c : Dev nD) : Fin 8192 → Fin 2048 → EReal := fun s x => m ((c : Thread nD τ).loc main_arg0) (ix2 s x)
/-- The right operand, by row and column. -/
def rhs (c : Dev nD) : Fin 2048 → Fin 2048 → EReal := fun s x => m ((c : Thread nD τ).loc main_arg1) (ix2 s x)

/-- The product of two tiles. -/
theorem pay (a : FVec Ideal S1024x2048 .bf16) (b : FVec Ideal S2048x1024 .bf16) (r s : Fin 1024) :
    (k0_pay1 (F := Ideal) a b (ix2 r s) : EReal) = ∑ k : Fin 2048, a (ix2 r k) * b (ix2 k s) := by
  pointwise [k0_pay1]

/-- What a point leaves in its block. -/
theorem point (c : Dev nD) (t : Fin cfg0.N) (y : S1024x1024.Idx) :
    (out0_2 (F := Ideal) (iblk m c 0 t) (iblk m c 1 t) y : EReal) =
      ∑ k : Fin 2048, lhs m c ⟨1024 * (t.val / 2) + (y 0).val, by have : t.val < 16 := t.isLt; have : (y 0).val < 1024 := (y 0).isLt; omega⟩ k
        * rhs m c k ⟨1024 * (t.val % 2) + (y 1).val, by have : (y 1).val < 1024 := (y 1).isLt; omega⟩ := by
  obtain ⟨r, s, rfl⟩ : ∃ r s : Fin 1024, y = ix2 r s := ⟨y 0, y 1, by blk_ext⟩
  frame_out
  rw [pay]
  unfold lhs rhs
  refine Finset.sum_congr rfl fun k _ => ?_
  congr 1
  all_goals blk_point [iblk, V, idx t]

/-- The result, in closed form. -/
theorem arr (c : Dev nD) : (dats m 0 c).arrAt 2 cfg0.N = fun y => ∑ k : Fin 2048, lhs m c (y 0) k * rhs m c k (y 1) := by
  refine (dats m 0 c).arrAt_eq_of_covers 2 _ (by decide +kernel) fun t hf y => ?_
  blk_simp [idx t]
  rw [after0_2, point]
  refine Fin.sum_fin_congr fun k => ?_
  refine congr (congrArg _ (congrFun (congrArg _ ?_) _)) (congrArg _ ?_)
  all_goals apply Fin.ext
  all_goals blk_simp [idx t]
  all_goals dsimp only
  all_goals omega

/-- The reference's product, in closed form. -/
theorem ref (c : Dev nD) : (Cert.Reference7Ideal.Read.val_main_v2 (F := Ideal) (m ((c : Thread nD τ).loc main_arg0)) (m ((c : Thread nD τ).loc main_arg1)) : S8192x2048.Idx → EReal) =
    fun y => ∑ k : Fin 2048, lhs m c (y 0) k * rhs m c k (y 1) := by
  funext y
  rw [Cert.Reference7Ideal.Read.val_main_v2_apply]
  refine Finset.sum_congr rfl fun k _ => ?_
  rw [Cert.Reference7Ideal.Read.val_main_v1_apply, Cert.Reference7Ideal.Read.val_main_v0_apply]
  unfold lhs rhs
  congr 1
  · exact congrArg _ (by blk_ext)
  · exact congrArg _ (by blk_ext)

/-- The kernel ends with the reference's product in its output. -/
theorem algebraic : Cert.algebraic_Kernel7Ideal_Reference7Ideal := by
  intro m g m' g' _ he
  refine ⟨fun c => (dats m 0 c).arrAt 2 cfg0.N, Cert.Kernel7Ideal.Value.run_blocks m g, ?_⟩
  refine (θ_run Cert.Reference7Ideal.defs _ _).mono (fun r h c => ⟨(h c).1.trans ?_, (h c).2⟩) (Cert.Reference7Ideal.Value.run m' g')
  rw [Cert.Reference7Ideal.Read.val_main_v2_eq, (he c).1, (he c).2]
  exact (ref m c).trans (arr m c).symm

/-- The reference ends with its arguments as they were; it declares no semaphore. -/
theorem frame : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

end Cert.OutProduct
end
-- ==== Proof.InputNorm.lean ====
module
public import proofs.«01_k».proof.Proof.Gen.Kernel8Ideal.Value
public import proofs.«01_k».proof.Proof.Gen.Reference8Ideal.Read
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! The gradient into the layer's input, and into its normalization's gain accumulated over 32 blocks of rows. -/

@[expose] public section
set_option maxRecDepth 16384
noncomputable section
open Idealize.ShloMosaic Idealize.ShloMosaic.TcCoe Idealize.SL.Sem
namespace Cert.InputNorm

section Row
variable (x g d : Fin 2048 → EReal)

/-- The length of a row. -/
def len : EReal := Ideal.ofBits .f32 1157627904#32
/-- The mean square of a row, with the small constant. -/
def msq : EReal := Ideal.div (∑ k, x k * x k) len + Ideal.ofBits .f32 897988541#32
/-- One over its root. -/
def inv : EReal := Ideal.rsqrt (msq x)
/-- The kernel's gradient into a row, `y` the residual's. -/
def rowK (y : EReal) (j : Fin 2048) : EReal :=
  inv x * (d j * g j) - x j * (inv x * inv x * inv x) * Ideal.div (∑ k, d k * g k * x k) len + y
/-- The reference's gradient into the mean square. -/
def back : EReal := Ideal.div ((∑ k, x k * (d k * g k)) * (Ideal.ofBits .f32 3204448256#32 * Ideal.div (inv x) (msq x))) len
/-- The reference's gradient into a row. -/
def rowR (y : EReal) (j : Fin 2048) : EReal :=
  y + d j * g j * inv x + x j * back x g d + back x g d * x j

theorem len_eq : len = ((2048 : ℝ) : EReal) := by
  unfold len
  simp [Ideal.ofBits, Ideal.ieee, -EReal.coe_mul]; norm_num
theorem half_eq : Ideal.ofBits .f32 3204448256#32 = ((-(1 / 2) : ℝ) : EReal) := by
  simp [Ideal.ofBits, Ideal.ieee, -EReal.coe_mul, -EReal.coe_neg]; norm_num
theorem eps_pos : ∃ e : ℝ, 0 < e ∧ Ideal.ofBits .f32 897988541#32 = (e : EReal) := by
  refine ⟨8796093 * 2 ^ (-43 : ℤ), by positivity, ?_⟩
  simp [Ideal.ofBits, Ideal.ieee, -EReal.coe_mul]

/-- A finite multiple of an extended real, twice. -/
theorem twice (n : EReal) (a : ℝ) : n * (a : EReal) + n * (a : EReal) = n * ((2 * a : ℝ) : EReal) := by
  induction n with
  | coe r => norm_cast; ring
  | top =>
    rcases lt_trichotomy a 0 with h | rfl | h
    · rw [EReal.top_mul_coe_of_neg h, EReal.top_mul_coe_of_neg (by linarith)]; rfl
    · simp
    · rw [EReal.top_mul_coe_of_pos h, EReal.top_mul_coe_of_pos (by linarith)]; rfl
  | bot =>
    rcases lt_trichotomy a 0 with h | rfl | h
    · rw [EReal.bot_mul_coe_of_neg h, EReal.bot_mul_coe_of_neg (by linarith)]; rfl
    · simp
    · rw [EReal.bot_mul_coe_of_pos h, EReal.bot_mul_coe_of_pos (by linarith)]; rfl

/-- The mean square is positive: infinite, or a real. -/
theorem msq_cases : msq x = ⊤ ∨ ∃ s : ℝ, 0 < s ∧ msq x = (s : EReal) := by
  obtain ⟨e, he, h⟩ := eps_pos
  have h0 : (0 : EReal) ≤ ∑ k, x k * x k := Finset.sum_nonneg fun k _ => by
    rcases le_total 0 (x k) with hk | hk
    · exact mul_nonneg hk hk
    · have := EReal.neg_le_neg_iff.mpr hk
      rw [neg_zero] at this
      rw [← neg_mul_neg]; exact mul_nonneg this this
  unfold msq
  rw [h, len_eq, Ideal.div_coe (by norm_num)]
  generalize ∑ k, x k * x k = q at h0
  induction q with
  | coe r =>
    have hr : 0 ≤ r := by exact_mod_cast h0
    exact .inr ⟨r * (1 / 2048) + e, by positivity, by norm_cast⟩
  | top => exact .inl (by rw [EReal.top_mul_coe_of_pos (by norm_num)]; exact EReal.top_add_coe e)
  | bot => exact absurd h0 (by simp)

/-- The two gradients into a row agree. -/
theorem row_eq (y : EReal) (j : Fin 2048) : rowK x g d y j = rowR x g d y j := by
  have hs : ∑ k, d k * g k * x k = ∑ k, x k * (d k * g k) := Finset.sum_congr rfl fun k _ => mul_comm _ _
  unfold rowK rowR back
  rw [hs, len_eq, half_eq, Ideal.div_coe (by norm_num), Ideal.div_coe (by norm_num)]
  generalize ∑ k, x k * (d k * g k) = M
  generalize d j * g j = p
  generalize x j = u
  rcases msq_cases x with h | ⟨s, h0, h⟩
  · have hi : inv x = 0 := by unfold inv; rw [h]; rfl
    have hd : Ideal.div 0 ⊤ = 0 := by simp [Ideal.div]
    rw [hi, h, hd]
    simp [add_comm]
  · have hr : 0 < Real.sqrt s := Real.sqrt_pos.mpr h0
    have hi : inv x = (((Real.sqrt s)⁻¹ : ℝ) : EReal) := by
      unfold inv; rw [h, Ideal.rsqrt_coe, if_neg (not_lt.mpr h0.le), if_neg h0.ne']
    have hc : (Real.sqrt s)⁻¹ * (1 / s) = (Real.sqrt s)⁻¹ * (Real.sqrt s)⁻¹ * (Real.sqrt s)⁻¹ := by
      have := Real.mul_self_sqrt h0.le
      rw [mul_assoc, ← mul_inv, this, one_div]
    rw [hi, h, Ideal.div_coe h0.ne']
    generalize (Real.sqrt s)⁻¹ = r at hc
    have e1 : u * (M * (((-(1 / 2) : ℝ) : EReal) * ((r : EReal) * ((1 / s : ℝ) : EReal))) * ((1 / 2048 : ℝ) : EReal)) =
        u * M * ((-(1 / 2) * (r * (1 / s)) * (1 / 2048) : ℝ) : EReal) := by
      push_cast; simp only [mul_assoc]
    have e2 : u * ((r : EReal) * r * r) * (M * ((1 / 2048 : ℝ) : EReal)) = u * M * ((r * r * r * (1 / 2048) : ℝ) : EReal) := by
      push_cast; simp only [mul_assoc, mul_comm, mul_left_comm]
    rw [mul_comm _ u, e1, e2, hc, add_assoc (y + _), twice, sub_eq_add_neg, ← mul_neg, ← EReal.coe_neg,
      show 2 * (-(1 / 2) * (r * r * r) * (1 / 2048)) = -(r * r * r * (1 / 2048)) by ring, mul_comm p, add_comm, add_assoc]
end Row

open Cert.Kernel8Ideal Cert.Kernel8Ideal.Gen

variable (m : (ℓ : Loc nD τ sig) → Buf (Elt Ideal) ℓ)

/-- The block each window takes at a point. -/
theorem idx : ∀ t : Fin cfg0.N, win0_0.index t = ![t.val, 0] ∧ win0_1.index t = ![0, 0] ∧ win0_2.index t = ![t.val, 0] ∧
    win0_3.index t = ![t.val, 0] ∧ win0_4.index t = ![t.val, 0] ∧ win0_5.index t = ![t.val, 0] ∧ win0_6.index t = ![0, 0] :=
  (by decide +kernel : ∀ t : Fin grid0.N, _)

/-- A row of the layer's input. -/
def X (c : Dev nD) : Fin 8192 → Fin 2048 → EReal := fun s k => m ((c : Thread nD τ).loc main_arg0) (ix2 s k)
/-- The gain. -/
def G (c : Dev nD) : Fin 2048 → EReal := fun k => m ((c : Thread nD τ).loc main_arg1) (ix2 0 k)
/-- The first gradient into the normalized rows. -/
def D1 (c : Dev nD) : Fin 8192 → Fin 2048 → EReal := fun s k => m ((c : Thread nD τ).loc main_arg2) (ix2 s k)
/-- The second one. -/
def D2 (c : Dev nD) : Fin 8192 → Fin 2048 → EReal := fun s k => m ((c : Thread nD τ).loc main_arg3) (ix2 s k)
/-- The residual's gradient. -/
def Y (c : Dev nD) : Fin 8192 → Fin 2048 → EReal := fun s k => m ((c : Thread nD τ).loc main_arg4) (ix2 s k)
/-- The gradient into the normalized rows. -/
def D (c : Dev nD) (s : Fin 8192) (k : Fin 2048) : EReal := D1 m c s k + D2 m c s k

/-- One over the root of a row's mean square. -/
theorem pay_inv (x : FVec Ideal S256x2048 .f32) (r : Fin 256) :
    (k0_pay3 (F := Ideal) x (ix2 r 0) : EReal) = inv fun k => x (ix2 r k) := by
  unfold inv msq len
  pointwise [k0_pay3]

/-- The gradient into a row of a tile. -/
theorem pay_row (x d1 d2 y : FVec Ideal S256x2048 .f32) (g : FVec Ideal S1x2048 .f32) (r : Fin 256) (j : Fin 2048) :
    (k0_pay4 (F := Ideal) x d1 d2 g y (ix2 r j) : EReal) =
      rowK (fun k => x (ix2 r k)) (fun k => g (ix2 0 k)) (fun k => d1 (ix2 r k) + d2 (ix2 r k)) (y (ix2 r j)) j := by
  unfold rowK
  rw [← pay_inv]
  unfold len
  pointwise [k0_pay4, k0_pay2]

/-- The gain's gradient after a tile. -/
theorem pay_gain (x d : FVec Ideal S256x2048 .f32) (v : FVec Ideal S256x1 .f32) (a : FVec Ideal S1x2048 .f32) (j : Fin 2048) :
    (k0_pay1 (F := Ideal) x d v a (ix2 0 j) : EReal) = a (ix2 0 j) + ∑ r : Fin 256, d (ix2 r j) * x (ix2 r j) * v (ix2 r 0) := by
  pointwise [k0_pay1]

/-- The row of the whole array a point's row is. -/
def at_ (t : Fin cfg0.N) (r : Fin 256) : Fin 8192 := ⟨256 * t.val + r.val, by have : t.val < 32 := t.isLt; omega⟩

/-- The tile's rows, read in the whole arrays. -/
theorem blk (c : Dev nD) (t : Fin cfg0.N) (r : Fin 256) (k : Fin 2048) :
    (iblk m c 0 t : FVec Ideal S256x2048 .f32) (ix2 r k) = X m c (at_ t r) k ∧ (iblk m c 1 t : FVec Ideal S1x2048 .f32) (ix2 0 k) = G m c k ∧
    (iblk m c 2 t : FVec Ideal S256x2048 .f32) (ix2 r k) = D1 m c (at_ t r) k ∧ (iblk m c 3 t : FVec Ideal S256x2048 .f32) (ix2 r k) = D2 m c (at_ t r) k ∧
    (iblk m c 4 t : FVec Ideal S256x2048 .f32) (ix2 r k) = Y m c (at_ t r) k := by
  unfold X G D1 D2 Y at_
  refine ⟨?_, ?_, ?_, ?_, ?_⟩
  all_goals blk_point [iblk, V, idx t]

/-- The gradient into a row of a point's blocks. -/
theorem pay_row_blk (c : Dev nD) (t : Fin cfg0.N) (r : Fin 256) (j : Fin 2048) :
    (k0_pay4 (F := Ideal) (iblk m c 0 t) (iblk m c 2 t) (iblk m c 3 t) (iblk m c 1 t) (iblk m c 4 t) (ix2 r j) : EReal) =
      rowK (X m c (at_ t r)) (G m c) (D m c (at_ t r)) (Y m c (at_ t r) j) j := by
  rw [pay_row]
  simp only [blk m c t r]
  rfl

/-- A point's share of the gain's gradient. -/
def term (c : Dev nD) (t : Fin cfg0.N) (y : S1x2048.Idx) : EReal :=
  ∑ r : Fin 256, D m c (at_ t r) (y 1) * X m c (at_ t r) (y 1) * inv (X m c (at_ t r))

/-- The gain's gradient after a point. -/
theorem pay_gain_blk (c : Dev nD) (t : Fin cfg0.N) (a : FVec Ideal S1x2048 .f32) (y : S1x2048.Idx) :
    (k0_pay1 (F := Ideal) (iblk m c 0 t) (k0_pay2 (iblk m c 2 t) (iblk m c 3 t)) (k0_pay3 (iblk m c 0 t)) a y : EReal) = a y + term m c t y := by
  obtain ⟨j, rfl⟩ : ∃ j : Fin 2048, y = ix2 0 j := ⟨y 1, by blk_ext⟩
  rw [pay_gain]
  refine congrArg (_ + ·) (Finset.sum_congr rfl fun r _ => ?_)
  rw [pay_inv]
  simp only [blk m c t r]
  pointwise [k0_pay2]
  simp only [blk m c t r]
  rfl

/-- What a point leaves in the block of the input's gradient. -/
theorem rows (c : Dev nD) (t : Fin cfg0.N) (r : Fin 256) (j : Fin 2048) :
    ((outsAt0 m c t.val t.isLt).1 (ix2 r j) : EReal) = rowK (X m c (at_ t r)) (G m c) (D m c (at_ t r)) (Y m c (at_ t r) j) j := by
  by_cases h : t.val % 32 = 0
  on_goal 1 => rw [outsAt0_A m c t h]
  on_goal 2 => rw [outsAt0_B m c t h]
  all_goals frame_out
  all_goals exact pay_row_blk m c t r j

/-- The first point starts the gain's gradient. -/
theorem first (c : Dev nD) (t : Fin cfg0.N) (h : t.val % 32 = 0) (y : S1x2048.Idx) :
    ((outsAt0 m c t.val t.isLt).2 y : EReal) = 0 + term m c t y := by
  rw [outsAt0_A m c t h]
  frame_out
  rw [pay_gain_blk]
  refine congrArg (· + _) ?_
  pointwise [k0_pay5]

/-- Every later point adds to it. -/
theorem next (c : Dev nD) (t : Fin cfg0.N) (h : ¬t.val % 32 = 0) (y : S1x2048.Idx) :
    ((outsAt0 m c t.val t.isLt).2 y : EReal) = (outsAt0 m c (t.val - 1) (Nat.lt_of_le_of_lt (Nat.sub_le _ _) t.isLt)).2 y + term m c t y := by
  rw [outsAt0_B m c t h]
  frame_out
  generalize (outsAt0 m c (t.val - 1) _).2 = prev
  rw [pay_gain_blk]

/-- The input's gradient, in closed form. -/
theorem arr5 (c : Dev nD) : (dats m 0 c).arrAt 5 cfg0.N = fun y => rowK (X m c (y 0)) (G m c) (D m c (y 0)) (Y m c (y 0) (y 1)) (y 1) := by
  refine (dats m 0 c).arrAt_eq_of_covers 5 _ (by decide +kernel) fun t hf y => ?_
  obtain ⟨r, j, rfl⟩ : ∃ (r : Fin 256) (j : Fin 2048), y = ix2 r j := ⟨y 0, y 1, by blk_ext⟩
  blk_simp [idx t]
  have e0 : (win0_5.blk t).view.emb (ix2 r j) 0 = at_ t r := by
    apply Fin.ext; unfold at_; blk_simp [idx t]; dsimp only; omega
  have e1 : (win0_5.blk t).view.emb (ix2 r j) 1 = j := by
    apply Fin.ext; blk_simp [idx t]
  rw [after0_5, rows, e0, e1]

/-- The gain's gradient, in closed form. -/
theorem arr6 (c : Dev nD) : (dats m 0 c).arrAt 6 cfg0.N = fun y => ∑ s : Fin 8192, D m c s (y 1) * X m c s (y 1) * inv (X m c s) := by
  refine (dats m 0 c).arrAt_eq_of_covers 6 _ (by decide +kernel) fun t hf y => ?_
  have ht := (flush0_6 t).mp hf
  blk_simp [idx t]
  rw [after0_6, Pipeline.eq_sum_fin_of_reset_step_apply_of_flush (fun n h => (outsAt0 m c n h).2) 32 (fun _ => 0) (term m c)
    (first m c) (next m c) t ht _, zero_add]
  have e1 : (win0_6.blk t).view.emb y 1 = y 1 := by
    apply Fin.ext; blk_simp [idx t]
  rw [e1]
  unfold term at_
  refine Fin.sum_mul_add_congr fun s r hl => ?_
  have ht' : t.val / 32 = 0 := by have : t.val < 32 := t.isLt; omega
  have e : (⟨256 * (32 * (t.val / 32) + s.val) + r.val, by omega⟩ : Fin 8192) = ⟨s.val * 256 + r.val, hl⟩ := by
    apply Fin.ext; dsimp only; omega
  dsimp only
  rw [e]

section Reference
open Cert.Reference8Ideal.Read
variable (x d1 d2 y : FVec Ideal S8192x2048 .f32) (g : FVec Ideal S1x2048 .f32) (s : Fin 8192) (j : Fin 2048)

/-- The reference's mean square of a row. -/
theorem ref_msq : (val_main_v6 (F := Ideal) x (ix2 s 0) : EReal) = msq fun k => x (ix2 s k) := by
  have e : ∀ k, idx_main_v1 (idx_main_v2 (ix2 s 0)) k = ix2 s k := fun k => by blk_ext
  rw [val_main_v6_apply, val_main_v4_apply, val_main_v2_apply, val_main_v1_apply, val_main_v3_apply, val_main_v5_apply, val_main_cst_apply,
    Ideal.ofBits_def, Ideal.ofBits_zero_f32, zero_add]
  simp only [e]
  rfl
/-- One over its root. -/
theorem ref_inv : (val_main_v7 (F := Ideal) x (ix2 s 0) : EReal) = inv fun k => x (ix2 s k) := by
  rw [val_main_v7_apply, ref_msq]
  rfl
/-- The gradient into the rows before the gain. -/
theorem ref_gained : (val_main_v20 (F := Ideal) g d1 d2 (ix2 s j) : EReal) = (d1 (ix2 s j) + d2 (ix2 s j)) * g (ix2 0 j) := by
  have e : idx_main_v19 (ix2 s j) = ix2 0 j := by blk_ext
  rw [val_main_v20_apply, val_main_v15_apply, val_main_v19_apply, e]
  rfl
/-- The gradient into the mean square. -/
theorem ref_back : (val_main_v29 (F := Ideal) x g d1 d2 (ix2 s 0) : EReal) =
    back (fun k => x (ix2 s k)) (fun k => g (ix2 0 k)) (fun k => d1 (ix2 s k) + d2 (ix2 s k)) := by
  have e : ∀ k, idx_main_v22 (idx_main_v23 (ix2 s 0)) k = ix2 s k := fun k => by blk_ext
  rw [val_main_v29_apply, val_main_v27_apply, val_main_v23_apply, val_main_v22_apply, val_main_v10_apply, val_main_v8_apply, val_main_v9_apply,
    val_main_v28_apply, val_main_cst_4_apply, Ideal.ofBits_def, Ideal.ofBits_zero_f32, zero_add, ref_inv, ref_msq]
  simp only [e, val_main_v21_apply, ref_gained]
  rfl
/-- The gradient into a row. -/
theorem ref_row : (val_main_v35 (F := Ideal) x g d1 d2 y (ix2 s j) : EReal) =
    rowR (fun k => x (ix2 s k)) (fun k => g (ix2 0 k)) (fun k => d1 (ix2 s k) + d2 (ix2 s k)) (y (ix2 s j)) j := by
  have e : ∀ k, idx_main_v30 (idx_main_v31 (ix2 s j)) k = ix2 s 0 := fun k => by blk_ext
  have e' : idx_main_v24 (ix2 s j) = ix2 s 0 := by blk_ext
  rw [val_main_v35_apply, val_main_v33_apply, val_main_v34_apply, val_main_v32_apply, val_main_v31_apply, val_main_v30_apply, val_main_cst_6_apply,
    Ideal.ofBits_def, Ideal.ofBits_zero_f32, zero_add, Fin.sum_univ_one, e, ref_back, val_main_v26_apply, val_main_v25_apply, ref_gained,
    val_main_v24_apply, e', ref_inv]
  rfl
/-- The gradient into the gain. -/
theorem ref_gain : (val_main_v18 (F := Ideal) x d1 d2 (ix2 0 j) : EReal) =
    ∑ s : Fin 8192, (d1 (ix2 s j) + d2 (ix2 s j)) * x (ix2 s j) * inv fun k => x (ix2 s k) := by
  have e : ∀ s, idx_main_v17 (idx_main_v18 (ix2 0 j)) s = ix2 s j := fun s => by blk_ext
  have e' : ∀ s : Fin 8192, idx_main_v11 (ix2 s j) = ix2 s 0 := fun s => by blk_ext
  rw [val_main_v18_apply, val_main_v17_apply, val_main_cst_3_apply, Ideal.ofBits_def, Ideal.ofBits_zero_f32, zero_add]
  refine Finset.sum_congr rfl fun s _ => ?_
  rw [e, val_main_v16_apply, val_main_v12_apply, val_main_v11_apply, e', ref_inv, val_main_v15_apply]
  exact (mul_comm _ _).trans (mul_assoc _ _ _).symm
end Reference

/-- The kernel ends with the reference's two gradients in its outputs. -/
theorem algebraic : Cert.algebraic_Kernel8Ideal_Reference8Ideal := by
  intro m g m' g' _ he
  refine ⟨fun c => (dats m 0 c).arrAt 5 cfg0.N, fun c => (dats m 0 c).arrAt 6 cfg0.N, Cert.Kernel8Ideal.Value.run_blocks m g, ?_⟩
  refine (θ_run Cert.Reference8Ideal.defs _ _).mono (fun r h c => ?_) (Cert.Reference8Ideal.Value.run m' g')
  obtain ⟨h0, h1, ha⟩ := h c
  obtain ⟨e0, e1, e2, e3, e4⟩ := he c
  refine ⟨h0.trans ?_, h1.trans ?_, ha⟩
  · rw [Cert.Reference8Ideal.Read.val_main_v35_eq, e0, e1, e2, e3, e4]
    refine Eq.trans ?_ (arr5 m c).symm
    funext y
    obtain ⟨s, j, rfl⟩ : ∃ (s : Fin 8192) (j : Fin 2048), y = ix2 s j := ⟨y 0, y 1, by blk_ext⟩
    exact (ref_row _ _ _ _ _ s j).trans (row_eq _ _ _ _ j).symm
  · rw [Cert.Reference8Ideal.Read.val_main_v18_eq, e0, e2, e3]
    refine Eq.trans ?_ (arr6 m c).symm
    funext y
    obtain ⟨j, rfl⟩ : ∃ j : Fin 2048, y = ix2 0 j := ⟨y 1, by blk_ext⟩
    exact ref_gain _ _ _ j

/-- The reference ends with its arguments as they were; it declares no semaphore. -/
theorem frame : Cert.quiescent_Reference8Ideal := fun m g _ =>
  (θ_run Cert.Reference8Ideal.defs _ _).mono (fun r h => ⟨fun c => (h c).2.2, sem_eq_zero_of_no_sems (by decide) r.2⟩)
    (Cert.Reference8Ideal.Value.run (F := Ideal) m g)

end Cert.InputNorm
end
-- ==== Proof.Merge.lean ====
module
public import proofs.«01_k».proof.Proof.Gen.Kernel9Ideal.Value
public import proofs.«01_k».proof.Proof.Gen.Reference9Ideal.Read
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! The gradient of the gated merge into the three branches and their gates, element by element. -/

@[expose] public section
set_option maxRecDepth 16384
noncomputable section
open Idealize.ShloMosaic Idealize.ShloMosaic.TcCoe Idealize.SL.Sem
namespace Cert.Merge
open Cert.Kernel9Ideal Cert.Kernel9Ideal.Gen

variable (m : (ℓ : Loc nD τ sig) → Buf (Elt Ideal) ℓ)

/-- The gradient into a branch: the merge's times the gate. -/
def toBranch (d g : EReal) : EReal := d * Ideal.logistic g
/-- The gradient into a gate, through the logistic function. -/
def toGate (d y g : EReal) : EReal := d * y * Ideal.logistic g * (1 - Ideal.logistic g)

/-- The block each window takes at a point. -/
theorem idx : ∀ t : Fin cfg0.N, win0_0.index t = ![t.val, 0] ∧ win0_1.index t = ![t.val, 0] ∧ win0_2.index t = ![t.val, 0] ∧
    win0_3.index t = ![t.val, 0] ∧ win0_4.index t = ![t.val, 10] ∧ win0_5.index t = ![t.val, 11] ∧ win0_6.index t = ![t.val, 12] ∧
    win0_7.index t = ![t.val, 0] ∧ win0_8.index t = ![t.val, 0] ∧ win0_9.index t = ![t.val, 0] ∧ win0_10.index t = ![t.val, 0] ∧
    win0_11.index t = ![t.val, 0] ∧ win0_12.index t = ![t.val, 0] := (by decide +kernel : ∀ t : Fin grid0.N, _)

/-- The merge's gradient. -/
def D (c : Dev nD) : Fin 8192 → Fin 2048 → EReal := fun s k => m ((c : Thread nD τ).loc main_arg0) (ix2 s k)
/-- The convolution's branch. -/
def Y0 (c : Dev nD) : Fin 8192 → Fin 2048 → EReal := fun s k => m ((c : Thread nD τ).loc main_arg1) (ix2 s k)
/-- The recurrent branch. -/
def Y1 (c : Dev nD) : Fin 8192 → Fin 2048 → EReal := fun s k => m ((c : Thread nD τ).loc main_arg2) (ix2 s k)
/-- The attention's branch. -/
def Y2 (c : Dev nD) : Fin 8192 → Fin 2048 → EReal := fun s k => m ((c : Thread nD τ).loc main_arg3) (ix2 s k)
/-- The gates of branch `b`. -/
def P (c : Dev nD) (b : Fin 3) : Fin 8192 → Fin 2048 → EReal :=
  fun s k => m ((c : Thread nD τ).loc main_arg4) (ix2 s ⟨20480 + 2048 * b.val + k.val, by omega⟩)

/-- The row of the whole array a point's row is. -/
def at_ (t : Fin cfg0.N) (r : Fin 256) : Fin 8192 := ⟨256 * t.val + r.val, by have : t.val < 32 := t.isLt; omega⟩

section
variable (d y g : FVec Ideal S256x2048 .f32) (i : S256x2048.Idx)
theorem pay_branch : (k0_pay3 (F := Ideal) d g i : EReal) = toBranch (d i) (g i) ∧ (k0_pay6 (F := Ideal) d g i : EReal) = toBranch (d i) (g i) ∧
    (k0_pay9 (F := Ideal) d g i : EReal) = toBranch (d i) (g i) := by
  unfold toBranch
  refine ⟨?_, ?_, ?_⟩
  · pointwise [k0_pay3, k0_pay2]
  · pointwise [k0_pay6, k0_pay5]
  · pointwise [k0_pay9, k0_pay8]
theorem pay_gate : (k0_pay4 (F := Ideal) d g y i : EReal) = toGate (d i) (y i) (g i) ∧ (k0_pay7 (F := Ideal) d g y i : EReal) = toGate (d i) (y i) (g i) ∧
    (k0_pay1 (F := Ideal) d (k0_pay8 g) y i : EReal) = toGate (d i) (y i) (g i) := by
  unfold toGate
  refine ⟨?_, ?_, ?_⟩
  · pointwise [k0_pay4, k0_pay2]
  · pointwise [k0_pay7, k0_pay5]
  · pointwise [k0_pay1, k0_pay8]
end

/-- The tile's elements, read in the whole arrays. -/
theorem blk (c : Dev nD) (t : Fin cfg0.N) (r : Fin 256) (k : Fin 2048) :
    (iblk m c 0 t : FVec Ideal S256x2048 .f32) (ix2 r k) = D m c (at_ t r) k ∧ (iblk m c 1 t : FVec Ideal S256x2048 .f32) (ix2 r k) = Y0 m c (at_ t r) k ∧
    (iblk m c 2 t : FVec Ideal S256x2048 .f32) (ix2 r k) = Y1 m c (at_ t r) k ∧ (iblk m c 3 t : FVec Ideal S256x2048 .f32) (ix2 r k) = Y2 m c (at_ t r) k ∧
    (iblk m c 4 t : FVec Ideal S256x2048 .f32) (ix2 r k) = P m c 0 (at_ t r) k ∧ (iblk m c 5 t : FVec Ideal S256x2048 .f32) (ix2 r k) = P m c 1 (at_ t r) k ∧
    (iblk m c 6 t : FVec Ideal S256x2048 .f32) (ix2 r k) = P m c 2 (at_ t r) k := by
  unfold D Y0 Y1 Y2 P at_
  refine ⟨?_, ?_, ?_, ?_, ?_, ?_, ?_⟩
  all_goals blk_point [iblk, V, idx t]

set_option maxHeartbeats 2000000 in
/-- The six results, in closed form. -/
theorem arr (c : Dev nD) :
    ((dats m 0 c).arrAt 7 cfg0.N = fun y => toBranch (D m c (y 0) (y 1)) (P m c 0 (y 0) (y 1))) ∧
    ((dats m 0 c).arrAt 8 cfg0.N = fun y => toBranch (D m c (y 0) (y 1)) (P m c 1 (y 0) (y 1))) ∧
    ((dats m 0 c).arrAt 9 cfg0.N = fun y => toBranch (D m c (y 0) (y 1)) (P m c 2 (y 0) (y 1))) ∧
    ((dats m 0 c).arrAt 10 cfg0.N = fun y => toGate (D m c (y 0) (y 1)) (Y0 m c (y 0) (y 1)) (P m c 0 (y 0) (y 1))) ∧
    ((dats m 0 c).arrAt 11 cfg0.N = fun y => toGate (D m c (y 0) (y 1)) (Y1 m c (y 0) (y 1)) (P m c 1 (y 0) (y 1))) ∧
    ((dats m 0 c).arrAt 12 cfg0.N = fun y => toGate (D m c (y 0) (y 1)) (Y2 m c (y 0) (y 1)) (P m c 2 (y 0) (y 1))) := by
  refine ⟨(dats m 0 c).arrAt_eq_of_covers 7 _ (by decide +kernel) fun t hf y => ?_, (dats m 0 c).arrAt_eq_of_covers 8 _ (by decide +kernel) fun t hf y => ?_,
    (dats m 0 c).arrAt_eq_of_covers 9 _ (by decide +kernel) fun t hf y => ?_, (dats m 0 c).arrAt_eq_of_covers 10 _ (by decide +kernel) fun t hf y => ?_,
    (dats m 0 c).arrAt_eq_of_covers 11 _ (by decide +kernel) fun t hf y => ?_, (dats m 0 c).arrAt_eq_of_covers 12 _ (by decide +kernel) fun t hf y => ?_⟩
  all_goals obtain ⟨r, j, rfl⟩ : ∃ (r : Fin 256) (j : Fin 2048), y = ix2 r j := ⟨y 0, y 1, by blk_ext⟩
  all_goals blk_simp [idx t]
  on_goal 1 => rw [after0_7]
  on_goal 2 => rw [after0_8]
  on_goal 3 => rw [after0_9]
  on_goal 4 => rw [after0_10]
  on_goal 5 => rw [after0_11]
  on_goal 6 => rw [after0_12]
  all_goals frame_out
  on_goal 1 => refine (pay_branch _ _ _).1.trans ?_
  on_goal 2 => refine (pay_branch _ _ _).2.1.trans ?_
  on_goal 3 => refine (pay_branch _ _ _).2.2.trans ?_
  on_goal 4 => refine (pay_gate _ _ _ _).1.trans ?_
  on_goal 5 => refine (pay_gate _ _ _ _).2.1.trans ?_
  on_goal 6 => refine (pay_gate _ _ _ _).2.2.trans ?_
  all_goals simp only [blk m c t r j]
  all_goals congr 1 <;> congr 1
  all_goals apply Fin.ext
  all_goals try unfold at_
  all_goals blk_simp [idx t]
  all_goals try dsimp only
  all_goals omega

section Reference
open Cert.Reference9Ideal Cert.Reference9Ideal.Read
variable (x0 x1 x2 x3 : (⟨Cert.Reference9Ideal.S8192x2048, .f32⟩ : BufTy).Contents (Elt Ideal))
  (x4 : (⟨Cert.Reference9Ideal.S8192x26624, .f32⟩ : BufTy).Contents (Elt Ideal)) (s : Fin 8192) (k : Fin 2048)

/-- The column of the joined gates at which branch `b` has its column `k`. -/
def col (b : Fin 3) (k : Fin 2048) : Fin 6144 := ⟨2048 * b.val + k.val, by omega⟩
/-- The gates' column in the whole projection. -/
def pcol (b : Fin 3) (k : Fin 2048) : Fin 26624 := ⟨20480 + 2048 * b.val + k.val, by omega⟩

/-- The reference's logistic function of a gate. -/
theorem ref_logistic (b : Fin 3) : (val_main_v6 (F := Ideal) x4 (ix2 s (col b k)) : EReal) = Ideal.logistic (x4 (ix2 s (pcol b k))) := by
  have e : idx_main_v0 (ix2 s (col b k)) = ix2 s (pcol b k) := by unfold col pcol; blk_ext
  rw [val_main_v6_apply, val_main_v5_apply, val_main_cst_0_apply, val_main_v4_apply, val_main_v3_apply, val_main_cst_apply, val_main_v2_apply,
    val_main_v1_apply, val_main_v0_apply, e, Ideal.ofBits_def, Ideal.ofBits_one_f32]
  rfl
/-- Its derivative. -/
theorem ref_slope (b : Fin 3) : (val_main_v9 (F := Ideal) x4 (ix2 s (col b k)) : EReal) =
    Ideal.logistic (x4 (ix2 s (pcol b k))) * (1 - Ideal.logistic (x4 (ix2 s (pcol b k)))) := by
  rw [val_main_v9_apply, val_main_v8_apply, val_main_v7_apply, val_main_cst_1_apply, Ideal.ofBits_def, Ideal.ofBits_one_f32, ref_logistic]
  rfl

/-- The gradients into the branches. -/
theorem ref_branch : (val_main_v31 (F := Ideal) x0 x4 (ix2 s k) : EReal) = toBranch (x0 (ix2 s k)) (x4 (ix2 s (pcol 0 k))) ∧
    (val_main_v32 (F := Ideal) x0 x4 (ix2 s k) : EReal) = toBranch (x0 (ix2 s k)) (x4 (ix2 s (pcol 1 k))) ∧
    (val_main_v33 (F := Ideal) x0 x4 (ix2 s k) : EReal) = toBranch (x0 (ix2 s k)) (x4 (ix2 s (pcol 2 k))) := by
  have a0 : idx_main_v10 (ix2 s k) = ix2 s (col 0 k) := by unfold col; blk_ext
  have a1 : idx_main_v11 (ix2 s k) = ix2 s (col 1 k) := by unfold col; blk_ext
  have a2 : idx_main_v12 (ix2 s k) = ix2 s (col 2 k) := by unfold col; blk_ext
  have b0 : idx_main_v18 (ix2 s k) = ix2 s k := by blk_ext
  have b1 : idx_main_v19 (ix2 s k) = ix2 s k := by blk_ext
  refine ⟨?_, ?_, ?_⟩
  · rw [val_main_v31_apply, val_main_v24_apply, val_main_v10_apply, val_main_v18_apply, a0, b0, ref_logistic]
    exact mul_comm _ _
  · rw [val_main_v32_apply, val_main_v22_apply, val_main_v11_apply, val_main_v18_apply, a1, b0, ref_logistic]
    exact mul_comm _ _
  · rw [val_main_v33_apply, val_main_v20_apply, val_main_v12_apply, val_main_v19_apply, a2, b1, ref_logistic]
    exact mul_comm _ _

/-- The gradients into the gates' values, joined: piece `b` is the merge's gradient times the branch. -/
theorem ref_joined : (val_main_v26 (F := Ideal) x0 x1 x2 x3 (ix2 s (col 0 k)) : EReal) = x0 (ix2 s k) * x1 (ix2 s k) ∧
    (val_main_v26 (F := Ideal) x0 x1 x2 x3 (ix2 s (col 1 k)) : EReal) = x0 (ix2 s k) * x2 (ix2 s k) ∧
    (val_main_v26 (F := Ideal) x0 x1 x2 x3 (ix2 s (col 2 k)) : EReal) = x0 (ix2 s k) * x3 (ix2 s k) := by
  have b0 : idx_main_v18 (ix2 s k) = ix2 s k := by blk_ext
  have b1 : idx_main_v19 (ix2 s k) = ix2 s k := by blk_ext
  unfold val_main_v26
  refine ⟨?_, ?_, ?_⟩
  · refine (concatenate_apply_piece (t := Cert.Reference9Ideal.S8192x6144) 1 _ _ _ 0 ?_ Cert.Reference9Ideal.S8192x2048 (val_main_v25 (F := Ideal) x0 x1) ?_ rfl 0 ?_ (ix2 s k) ?_ ?_).trans ?_
    · simp
    · rfl
    · rfl
    · intro b hb; fin_cases b; exacts [rfl, absurd rfl hb]
    · unfold col; simp
    rw [val_main_v25_apply, val_main_v18_apply, b0]
    rfl
  · refine (concatenate_apply_piece (t := Cert.Reference9Ideal.S8192x6144) 1 _ _ _ 1 ?_ Cert.Reference9Ideal.S8192x2048 (val_main_v23 (F := Ideal) x0 x2) ?_ rfl 2048 ?_ (ix2 s k) ?_ ?_).trans ?_
    · simp
    · rfl
    · rfl
    · intro b hb; fin_cases b; exacts [rfl, absurd rfl hb]
    · unfold col; simp
    rw [val_main_v23_apply, val_main_v18_apply, b0]
    rfl
  · refine (concatenate_apply_piece (t := Cert.Reference9Ideal.S8192x6144) 1 _ _ _ 2 ?_ Cert.Reference9Ideal.S8192x2048 (val_main_v21 (F := Ideal) x0 x3) ?_ rfl 4096 ?_ (ix2 s k) ?_ ?_).trans ?_
    · simp
    · rfl
    · rfl
    · intro b hb; fin_cases b; exacts [rfl, absurd rfl hb]
    · unfold col; simp
    rw [val_main_v21_apply, val_main_v19_apply, b1]
    rfl

/-- The gradients into the gates. -/
theorem ref_gate : (val_main_v34 (F := Ideal) x0 x1 x2 x3 x4 (ix2 s k) : EReal) = toGate (x0 (ix2 s k)) (x1 (ix2 s k)) (x4 (ix2 s (pcol 0 k))) ∧
    (val_main_v35 (F := Ideal) x0 x1 x2 x3 x4 (ix2 s k) : EReal) = toGate (x0 (ix2 s k)) (x2 (ix2 s k)) (x4 (ix2 s (pcol 1 k))) ∧
    (val_main_v36 (F := Ideal) x0 x1 x2 x3 x4 (ix2 s k) : EReal) = toGate (x0 (ix2 s k)) (x3 (ix2 s k)) (x4 (ix2 s (pcol 2 k))) := by
  have a0 : idx_main_v28 (ix2 s k) = ix2 s (col 0 k) := by unfold col; blk_ext
  have a1 : idx_main_v29 (ix2 s k) = ix2 s (col 1 k) := by unfold col; blk_ext
  have a2 : idx_main_v30 (ix2 s k) = ix2 s (col 2 k) := by unfold col; blk_ext
  refine ⟨?_, ?_, ?_⟩
  · rw [val_main_v34_apply, val_main_v28_apply, a0, val_main_v27_apply, (ref_joined x0 x1 x2 x3 s k).1, ref_slope]
    exact (mul_assoc _ _ _).symm
  · rw [val_main_v35_apply, val_main_v29_apply, a1, val_main_v27_apply, (ref_joined x0 x1 x2 x3 s k).2.1, ref_slope]
    exact (mul_assoc _ _ _).symm
  · rw [val_main_v36_apply, val_main_v30_apply, a2, val_main_v27_apply, (ref_joined x0 x1 x2 x3 s k).2.2, ref_slope]
    exact (mul_assoc _ _ _).symm
end Reference

/-- The kernel ends with the reference's six gradients in its outputs. -/
theorem algebraic : Cert.algebraic_Kernel9Ideal_Reference9Ideal := by
  intro m g m' g' _ he
  refine ⟨fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, fun c => (dats m 0 c).arrAt 12 cfg0.N,
    Cert.Kernel9Ideal.Value.run_blocks m g, ?_⟩
  refine (θ_run Cert.Reference9Ideal.defs _ _).mono (fun r h c => ?_) (Cert.Reference9Ideal.Value.run m' g')
  obtain ⟨h0, h1, h2, h3, h4, h5, ha⟩ := h c
  obtain ⟨e0, e1, e2, e3, e4⟩ := he c
  obtain ⟨w0, w1, w2, w3, w4, w5⟩ := arr m c
  refine ⟨h0.trans ?_, h1.trans ?_, h2.trans ?_, h3.trans ?_, h4.trans ?_, h5.trans ?_, ha⟩
  · rw [Cert.Reference9Ideal.Read.val_main_v31_eq, e0, e4]
    refine Eq.trans ?_ w0.symm
    funext y
    obtain ⟨s, k, rfl⟩ : ∃ (s : Fin 8192) (k : Fin 2048), y = ix2 s k := ⟨y 0, y 1, by blk_ext⟩
    exact (ref_branch _ _ s k).1
  · rw [Cert.Reference9Ideal.Read.val_main_v32_eq, e0, e4]
    refine Eq.trans ?_ w1.symm
    funext y
    obtain ⟨s, k, rfl⟩ : ∃ (s : Fin 8192) (k : Fin 2048), y = ix2 s k := ⟨y 0, y 1, by blk_ext⟩
    exact (ref_branch _ _ s k).2.1
  · rw [Cert.Reference9Ideal.Read.val_main_v33_eq, e0, e4]
    refine Eq.trans ?_ w2.symm
    funext y
    obtain ⟨s, k, rfl⟩ : ∃ (s : Fin 8192) (k : Fin 2048), y = ix2 s k := ⟨y 0, y 1, by blk_ext⟩
    exact (ref_branch _ _ s k).2.2
  · rw [Cert.Reference9Ideal.Read.val_main_v34_eq, e0, e1, e2, e3, e4]
    refine Eq.trans ?_ w3.symm
    funext y
    obtain ⟨s, k, rfl⟩ : ∃ (s : Fin 8192) (k : Fin 2048), y = ix2 s k := ⟨y 0, y 1, by blk_ext⟩
    exact (ref_gate _ _ _ _ _ s k).1
  · rw [Cert.Reference9Ideal.Read.val_main_v35_eq, e0, e1, e2, e3, e4]
    refine Eq.trans ?_ w4.symm
    funext y
    obtain ⟨s, k, rfl⟩ : ∃ (s : Fin 8192) (k : Fin 2048), y = ix2 s k := ⟨y 0, y 1, by blk_ext⟩
    exact (ref_gate _ _ _ _ _ s k).2.1
  · rw [Cert.Reference9Ideal.Read.val_main_v36_eq, e0, e1, e2, e3, e4]
    refine Eq.trans ?_ w5.symm
    funext y
    obtain ⟨s, k, rfl⟩ : ∃ (s : Fin 8192) (k : Fin 2048), y = ix2 s k := ⟨y 0, y 1, by blk_ext⟩
    exact (ref_gate _ _ _ _ _ s k).2.2

/-- The reference ends with its arguments as they were; it declares no semaphore. -/
theorem frame : Cert.quiescent_Reference9Ideal := fun m g _ =>
  (θ_run Cert.Reference9Ideal.defs _ _).mono (fun r h => ⟨fun c => (h c).2.2.2.2.2.2, sem_eq_zero_of_no_sems (by decide) r.2⟩)
    (Cert.Reference9Ideal.Value.run (F := Ideal) m g)

end Cert.Merge
end
-- ==== Proof.MemoryInput.lean ====
module
public import proofs.«01_k».proof.Proof.Gen.Kernel10Ideal.Value
public import proofs.«01_k».proof.Proof.Gen.Reference10Ideal.Read
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! The gradient of the keys' and values' projection into the memory: a product accumulated over two blocks of columns. -/

@[expose] public section
set_option maxRecDepth 16384
noncomputable section
open Idealize.ShloMosaic Idealize.ShloMosaic.TcCoe Idealize.SL.Sem
namespace Cert.MemoryInput
open Cert.Kernel10Ideal Cert.Kernel10Ideal.Gen

variable (m : (ℓ : Loc nD τ sig) → Buf (Elt Ideal) ℓ)

/-- The block each window takes at a point. -/
theorem idx : ∀ t : Fin cfg0.N, win0_0.index t = ![0, t.val % 2] ∧ win0_1.index t = ![t.val / 2, t.val % 2] ∧
    win0_2.index t = ![0, t.val / 2] := (by decide +kernel : ∀ t : Fin grid0.N, _)

/-- The left operand, by row and column. -/
def lhs (c : Dev nD) : Fin 256 → Fin 4096 → EReal := fun s x => m ((c : Thread nD τ).loc main_arg0) (ix2 s x)
/-- The right operand, by row and column. -/
def rhs (c : Dev nD) : Fin 2048 → Fin 4096 → EReal := fun s x => m ((c : Thread nD τ).loc main_arg1) (ix2 s x)

/-- The product of two tiles. -/
theorem pay (a : FVec Ideal S256x2048 .bf16) (b : FVec Ideal S1024x2048 .bf16) (r : Fin 256) (s : Fin 1024) :
    (k0_pay1 (F := Ideal) a b (ix2 r s) : EReal) = ∑ k : Fin 2048, a (ix2 r k) * b (ix2 s k) := by
  pointwise [k0_pay1]

/-- What a point adds to the accumulator. -/
def term (c : Dev nD) (t : Fin cfg0.N) (y : S256x1024.Idx) : EReal :=
  ∑ k : Fin 2048, lhs m c (y 0) ⟨2048 * (t.val % 2) + k.val, by omega⟩
    * rhs m c ⟨1024 * (t.val / 2) + (y 1).val, by have : t.val < 4 := t.isLt; have : (y 1).val < 1024 := (y 1).isLt; omega⟩ ⟨2048 * (t.val % 2) + k.val, by omega⟩

/-- The product of a point's blocks. -/
theorem pay_blk (c : Dev nD) (t : Fin cfg0.N) (y : S256x1024.Idx) :
    (k0_pay1 (F := Ideal) (iblk m c 0 t) (iblk m c 1 t) y : EReal) = term m c t y := by
  obtain ⟨r, s, rfl⟩ : ∃ (r : Fin 256) (s : Fin 1024), y = ix2 r s := ⟨y 0, y 1, by blk_ext⟩
  rw [pay]
  unfold term lhs rhs
  refine Finset.sum_congr rfl fun k _ => ?_
  congr 1
  all_goals blk_point [iblk, V, idx t]

/-- The first point of a run starts the accumulator. -/
theorem first (c : Dev nD) (t : Fin cfg0.N) (h : t.val % 2 = 0) (y : S256x1024.Idx) :
    ((outsAt0 m c t.val t.isLt).2 y : EReal) = 0 + term m c t y := by
  rw [outsAt0_A m c t h (by omega) (by omega)]
  frame_out
  rw [zero_add, ← pay_blk]
  pointwise [k0_pay2]

/-- Every later point adds to it. -/
theorem next (c : Dev nD) (t : Fin cfg0.N) (h : ¬t.val % 2 = 0) (y : S256x1024.Idx) :
    ((outsAt0 m c t.val t.isLt).2 y : EReal) = (outsAt0 m c (t.val - 1) (Nat.lt_of_le_of_lt (Nat.sub_le _ _) t.isLt)).2 y + term m c t y := by
  rw [outsAt0_B m c t h (by omega) (by omega)]
  frame_out
  generalize (outsAt0 m c (t.val - 1) _).2 = prev
  rw [← pay_blk]
  pointwise [k0_pay3]
  rw [read_unread_whole]

/-- The last point of a run writes the accumulator out. -/
theorem last (c : Dev nD) (t : Fin cfg0.N) (h : t.val % 2 = 1) (y : S256x1024.Idx) :
    ((outsAt0 m c t.val t.isLt).1 y : EReal) = (outsAt0 m c t.val t.isLt).2 y := by
  rw [outsAt0_B m c t (by omega) (by omega) h]
  frame_out

/-- The result, in closed form. -/
theorem arr (c : Dev nD) : (dats m 0 c).arrAt 2 cfg0.N = fun y => ∑ k : Fin 4096, lhs m c (y 0) k * rhs m c (y 1) k := by
  refine (dats m 0 c).arrAt_eq_of_covers 2 _ (by decide +kernel) fun t hf y => ?_
  have ht := (flush0_2 t).mp hf
  blk_simp [idx t]
  rw [after0_2, last m c t ht, Pipeline.eq_sum_fin_of_reset_step_apply_of_flush (fun n h => (outsAt0 m c n h).2) 2 (fun _ => 0) (term m c)
    (first m c) (next m c) t ht _, zero_add]
  refine Fin.sum_mul_add_congr fun s k hl => ?_
  have hs : (2 * (t.val / 2) + s.val) / 2 = t.val / 2 ∧ (2 * (t.val / 2) + s.val) % 2 = s.val := by omega
  refine congr (congrArg _ (congr (congrArg _ ?_) ?_)) (congr (congrArg _ ?_) ?_)
  all_goals apply Fin.ext
  on_goal 3 => blk_simp [idx t]
  on_goal 1 => blk_simp [idx t]
  all_goals dsimp only
  all_goals omega

/-- The reference's gradient, in closed form. -/
theorem ref (c : Dev nD) : (Cert.Reference10Ideal.Read.val_main_v4 (F := Ideal) (m ((c : Thread nD τ).loc main_arg0)) (m ((c : Thread nD τ).loc main_arg1)) : S256x2048.Idx → EReal) =
    fun y => ∑ k : Fin 4096, lhs m c (y 0) k * rhs m c (y 1) k := by
  funext y
  rw [Cert.Reference10Ideal.Read.val_main_v4_apply]
  refine Finset.sum_congr rfl fun k _ => ?_
  rw [Cert.Reference10Ideal.Read.val_main_v3_apply, Cert.Reference10Ideal.Read.val_main_v0_apply]
  unfold lhs rhs
  congr 1
  · exact congrArg _ (by blk_ext)
  · exact congrArg _ (by blk_ext)

/-- The kernel ends with the reference's gradient in its output. -/
theorem algebraic : Cert.algebraic_Kernel10Ideal_Reference10Ideal := by
  intro m g m' g' _ he
  refine ⟨fun c => (dats m 0 c).arrAt 2 cfg0.N, Cert.Kernel10Ideal.Value.run_blocks m g, ?_⟩
  refine (θ_run Cert.Reference10Ideal.defs _ _).mono (fun r h c => ⟨(h c).1.trans ?_, (h c).2⟩) (Cert.Reference10Ideal.Value.run m' g')
  rw [Cert.Reference10Ideal.Read.val_main_v4_eq, (he c).1, (he c).2]
  exact (ref m c).trans (arr m c).symm

/-- The reference ends with its arguments as they were; it declares no semaphore. -/
theorem frame : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

end Cert.MemoryInput
end
-- ==== Proof.MemoryWeight.lean ====
module
public import proofs.«01_k».proof.Proof.Gen.Kernel11Ideal.Value
public import proofs.«01_k».proof.Proof.Gen.Reference11Ideal.Read
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! The gradient of the keys' and values' projection into its weight: one product for each tile, its result cast. -/

@[expose] public section
set_option maxRecDepth 16384
noncomputable section
open Idealize.ShloMosaic Idealize.ShloMosaic.TcCoe Idealize.SL.Sem
namespace Cert.MemoryWeight
open Cert.Kernel11Ideal Cert.Kernel11Ideal.Gen

variable (m : (ℓ : Loc nD τ sig) → Buf (Elt Ideal) ℓ)

/-- The block each window takes at a point. -/
theorem idx : ∀ t : Fin cfg0.N, win0_0.index t = ![0, t.val / 4] ∧ win0_1.index t = ![0, t.val % 4] ∧
    win0_2.index t = ![t.val / 4, t.val % 4] := (by decide +kernel : ∀ t : Fin grid0.N, _)

/-- The left operand, by row and column. -/
def lhs (c : Dev nD) : Fin 256 → Fin 2048 → EReal := fun s x => m ((c : Thread nD τ).loc main_arg0) (ix2 s x)
/-- The right operand, by row and column. -/
def rhs (c : Dev nD) : Fin 256 → Fin 4096 → EReal := fun s x => m ((c : Thread nD τ).loc main_arg1) (ix2 s x)

/-- The product of two tiles. -/
theorem pay (a : FVec Ideal S256x1024 .bf16) (b : FVec Ideal S256x1024 .bf16) (r s : Fin 1024) :
    (k0_pay1 (F := Ideal) a b (ix2 r s) : EReal) = ∑ k : Fin 256, a (ix2 k r) * b (ix2 k s) := by
  pointwise [k0_pay1]

/-- What a point leaves in its block. -/
theorem point (c : Dev nD) (t : Fin cfg0.N) (y : S1024x1024.Idx) :
    (out0_2 (F := Ideal) (iblk m c 0 t) (iblk m c 1 t) y : EReal) =
      ∑ k : Fin 256, lhs m c k ⟨1024 * (t.val / 4) + (y 0).val, by have : t.val < 8 := t.isLt; have : (y 0).val < 1024 := (y 0).isLt; omega⟩
        * rhs m c k ⟨1024 * (t.val % 4) + (y 1).val, by have : (y 1).val < 1024 := (y 1).isLt; omega⟩ := by
  obtain ⟨r, s, rfl⟩ : ∃ r s : Fin 1024, y = ix2 r s := ⟨y 0, y 1, by blk_ext⟩
  frame_out
  rw [pay]
  unfold lhs rhs
  refine Finset.sum_congr rfl fun k _ => ?_
  congr 1
  all_goals blk_point [iblk, V, idx t]

/-- The result, in closed form. -/
theorem arr (c : Dev nD) : (dats m 0 c).arrAt 2 cfg0.N = fun y => ∑ k : Fin 256, lhs m c k (y 0) * rhs m c k (y 1) := by
  refine (dats m 0 c).arrAt_eq_of_covers 2 _ (by decide +kernel) fun t hf y => ?_
  blk_simp [idx t]
  rw [after0_2, point]
  refine Fin.sum_fin_congr fun k => ?_
  refine congr (congrArg _ (congrArg _ ?_)) (congrArg _ ?_)
  all_goals apply Fin.ext
  all_goals blk_simp [idx t]
  all_goals dsimp only
  all_goals omega

/-- The reference's gradient, in closed form. -/
theorem ref (c : Dev nD) : (Cert.Reference11Ideal.Read.val_main_v6 (F := Ideal) (m ((c : Thread nD τ).loc main_arg0)) (m ((c : Thread nD τ).loc main_arg1)) : S2048x4096.Idx → EReal) =
    fun y => ∑ k : Fin 256, lhs m c k (y 0) * rhs m c k (y 1) := by
  funext y
  rw [Cert.Reference11Ideal.Read.val_main_v6_apply, Cert.Reference11Ideal.Read.val_main_v5_apply, Cert.Reference11Ideal.Read.val_main_v4_apply]
  refine Finset.sum_congr rfl fun k _ => ?_
  rw [Cert.Reference11Ideal.Read.val_main_v3_apply, Cert.Reference11Ideal.Read.val_main_v0_apply]
  unfold lhs rhs
  refine (mul_comm _ _).trans ?_
  congr 1
  · exact congrArg _ (by blk_ext)
  · exact congrArg _ (by blk_ext)

/-- The kernel ends with the reference's gradient in its output. -/
theorem algebraic : Cert.algebraic_Kernel11Ideal_Reference11Ideal := by
  intro m g m' g' _ he
  refine ⟨fun c => (dats m 0 c).arrAt 2 cfg0.N, Cert.Kernel11Ideal.Value.run_blocks m g, ?_⟩
  refine (θ_run Cert.Reference11Ideal.defs _ _).mono (fun r h c => ⟨(h c).1.trans ?_, (h c).2⟩) (Cert.Reference11Ideal.Value.run m' g')
  rw [Cert.Reference11Ideal.Read.val_main_v6_eq, (he c).1, (he c).2]
  exact (ref m c).trans (arr m c).symm

/-- The reference ends with its arguments as they were; it declares no semaphore. -/
theorem frame : Cert.quiescent_Reference11Ideal := fun m g _ =>
  (θ_run Cert.Reference11Ideal.defs _ _).mono (fun r h => ⟨fun c => (h c).2, sem_eq_zero_of_no_sems (by decide) r.2⟩)
    (Cert.Reference11Ideal.Value.run (F := Ideal) m g)

end Cert.MemoryWeight
end
-- ==== Proof.GateInput.lean ====
module
public import proofs.«01_k».proof.Proof.Gen.Kernel12Ideal.Value
public import proofs.«01_k».proof.Proof.Gen.Reference12Ideal.Read
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! The gradient of the gates' projection into its input: one product for each tile. -/

@[expose] public section
set_option maxRecDepth 16384
noncomputable section
open Idealize.ShloMosaic Idealize.ShloMosaic.TcCoe Idealize.SL.Sem
namespace Cert.GateInput
open Cert.Kernel12Ideal Cert.Kernel12Ideal.Gen

variable (m : (ℓ : Loc nD τ sig) → Buf (Elt Ideal) ℓ)

/-- The block each window takes at a point. -/
theorem idx : ∀ t : Fin cfg0.N, win0_0.index t = ![t.val / 2, 0] ∧ win0_1.index t = ![t.val % 2, 0] ∧
    win0_2.index t = ![t.val / 2, t.val % 2] := (by decide +kernel : ∀ t : Fin grid0.N, _)

/-- The left operand, by row and column. -/
def lhs (c : Dev nD) : Fin 8192 → Fin 128 → EReal := fun s x => m ((c : Thread nD τ).loc main_arg0) (ix2 s x)
/-- The right operand, by row and column. -/
def rhs (c : Dev nD) : Fin 2048 → Fin 128 → EReal := fun s x => m ((c : Thread nD τ).loc main_arg1) (ix2 s x)

/-- The product of two tiles. -/
theorem pay (a : FVec Ideal S1024x128 .bf16) (b : FVec Ideal S1024x128 .bf16) (r s : Fin 1024) :
    (k0_pay1 (F := Ideal) a b (ix2 r s) : EReal) = ∑ k : Fin 128, a (ix2 r k) * b (ix2 s k) := by
  pointwise [k0_pay1]

/-- What a point leaves in its block. -/
theorem point (c : Dev nD) (t : Fin cfg0.N) (y : S1024x1024.Idx) :
    (out0_2 (F := Ideal) (iblk m c 0 t) (iblk m c 1 t) y : EReal) =
      ∑ k : Fin 128, lhs m c ⟨1024 * (t.val / 2) + (y 0).val, by have : t.val < 16 := t.isLt; have : (y 0).val < 1024 := (y 0).isLt; omega⟩ k
        * rhs m c ⟨1024 * (t.val % 2) + (y 1).val, by have : (y 1).val < 1024 := (y 1).isLt; omega⟩ k := by
  obtain ⟨r, s, rfl⟩ : ∃ r s : Fin 1024, y = ix2 r s := ⟨y 0, y 1, by blk_ext⟩
  frame_out
  rw [pay]
  unfold lhs rhs
  refine Finset.sum_congr rfl fun k _ => ?_
  congr 1
  all_goals blk_point [iblk, V, idx t]

/-- The result, in closed form. -/
theorem arr (c : Dev nD) : (dats m 0 c).arrAt 2 cfg0.N = fun y => ∑ k : Fin 128, lhs m c (y 0) k * rhs m c (y 1) k := by
  refine (dats m 0 c).arrAt_eq_of_covers 2 _ (by decide +kernel) fun t hf y => ?_
  blk_simp [idx t]
  rw [after0_2, point]
  refine Fin.sum_fin_congr fun k => ?_
  refine congr (congrArg _ (congrFun (congrArg _ ?_) _)) (congrFun (congrArg _ ?_) _)
  all_goals apply Fin.ext
  all_goals blk_simp [idx t]
  all_goals dsimp only
  all_goals omega

/-- The reference's gradient, in closed form. -/
theorem ref (c : Dev nD) : (Cert.Reference12Ideal.Read.val_main_v4 (F := Ideal) (m ((c : Thread nD τ).loc main_arg0)) (m ((c : Thread nD τ).loc main_arg1)) : S8192x2048.Idx → EReal) =
    fun y => ∑ k : Fin 128, lhs m c (y 0) k * rhs m c (y 1) k := by
  funext y
  rw [Cert.Reference12Ideal.Read.val_main_v4_apply]
  refine Finset.sum_congr rfl fun k _ => ?_
  rw [Cert.Reference12Ideal.Read.val_main_v3_apply, Cert.Reference12Ideal.Read.val_main_v0_apply]
  unfold lhs rhs
  congr 1
  · exact congrArg _ (by blk_ext)
  · exact congrArg _ (by blk_ext)

/-- The kernel ends with the reference's gradient in its output. -/
theorem algebraic : Cert.algebraic_Kernel12Ideal_Reference12Ideal := by
  intro m g m' g' _ he
  refine ⟨fun c => (dats m 0 c).arrAt 2 cfg0.N, Cert.Kernel12Ideal.Value.run_blocks m g, ?_⟩
  refine (θ_run Cert.Reference12Ideal.defs _ _).mono (fun r h c => ⟨(h c).1.trans ?_, (h c).2⟩) (Cert.Reference12Ideal.Value.run m' g')
  rw [Cert.Reference12Ideal.Read.val_main_v4_eq, (he c).1, (he c).2]
  exact (ref m c).trans (arr m c).symm

/-- The reference ends with its arguments as they were; it declares no semaphore. -/
theorem frame : Cert.quiescent_Reference12Ideal := fun m g _ =>
  (θ_run Cert.Reference12Ideal.defs _ _).mono (fun r h => ⟨fun c => (h c).2, sem_eq_zero_of_no_sems (by decide) r.2⟩)
    (Cert.Reference12Ideal.Value.run (F := Ideal) m g)

end Cert.GateInput
end
-- ==== Proof.GateWeight.lean ====
module
public import proofs.«01_k».proof.Proof.Gen.Kernel13Ideal.Value
public import proofs.«01_k».proof.Proof.Gen.Reference13Ideal.Read
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! The gradient of the gates' projection into its weight: a product accumulated over four blocks of rows. -/

@[expose] public section
set_option maxRecDepth 16384
noncomputable section
open Idealize.ShloMosaic Idealize.ShloMosaic.TcCoe Idealize.SL.Sem
namespace Cert.GateWeight
open Cert.Kernel13Ideal Cert.Kernel13Ideal.Gen

variable (m : (ℓ : Loc nD τ sig) → Buf (Elt Ideal) ℓ)

/-- The block each window takes at a point. -/
theorem idx : ∀ t : Fin cfg0.N, win0_0.index t = ![t.val % 4, t.val / 4] ∧ win0_1.index t = ![t.val % 4, 0] ∧
    win0_2.index t = ![t.val / 4, 0] := (by decide +kernel : ∀ t : Fin grid0.N, _)

/-- The left operand, by row and column. -/
def lhs (c : Dev nD) : Fin 8192 → Fin 2048 → EReal := fun s x => m ((c : Thread nD τ).loc main_arg0) (ix2 s x)
/-- The right operand, by row and column. -/
def rhs (c : Dev nD) : Fin 8192 → Fin 128 → EReal := fun s x => m ((c : Thread nD τ).loc main_arg1) (ix2 s x)

/-- The product of two tiles. -/
theorem pay (a : FVec Ideal S2048x1024 .bf16) (b : FVec Ideal S2048x128 .bf16) (r : Fin 1024) (s : Fin 128) :
    (k0_pay1 (F := Ideal) a b (ix2 r s) : EReal) = ∑ k : Fin 2048, a (ix2 k r) * b (ix2 k s) := by
  pointwise [k0_pay1]

/-- What a point adds to the accumulator. -/
def term (c : Dev nD) (t : Fin cfg0.N) (y : S1024x128.Idx) : EReal :=
  ∑ k : Fin 2048, lhs m c ⟨2048 * (t.val % 4) + k.val, by omega⟩ ⟨1024 * (t.val / 4) + (y 0).val, by have : t.val < 8 := t.isLt; have : (y 0).val < 1024 := (y 0).isLt; omega⟩
    * rhs m c ⟨2048 * (t.val % 4) + k.val, by omega⟩ (y 1)

/-- The product of a point's blocks. -/
theorem pay_blk (c : Dev nD) (t : Fin cfg0.N) (y : S1024x128.Idx) :
    (k0_pay1 (F := Ideal) (iblk m c 0 t) (iblk m c 1 t) y : EReal) = term m c t y := by
  obtain ⟨r, s, rfl⟩ : ∃ (r : Fin 1024) (s : Fin 128), y = ix2 r s := ⟨y 0, y 1, by blk_ext⟩
  rw [pay]
  unfold term lhs rhs
  refine Finset.sum_congr rfl fun k _ => ?_
  congr 1
  all_goals blk_point [iblk, V, idx t]

/-- The first point of a run starts the accumulator. -/
theorem first (c : Dev nD) (t : Fin cfg0.N) (h : t.val % 4 = 0) (y : S1024x128.Idx) :
    ((outsAt0 m c t.val t.isLt).2 y : EReal) = 0 + term m c t y := by
  rw [outsAt0_A m c t h (by omega) (by omega)]
  frame_out
  rw [zero_add, ← pay_blk]
  pointwise [k0_pay2]

/-- Every later point adds to it. -/
theorem next (c : Dev nD) (t : Fin cfg0.N) (h : ¬t.val % 4 = 0) (y : S1024x128.Idx) :
    ((outsAt0 m c t.val t.isLt).2 y : EReal) = (outsAt0 m c (t.val - 1) (Nat.lt_of_le_of_lt (Nat.sub_le _ _) t.isLt)).2 y + term m c t y := by
  by_cases hl : t.val % 4 = 3
  on_goal 1 => rw [outsAt0_C m c t h (by omega) hl]
  on_goal 2 => rw [outsAt0_B m c t h (by omega) hl]
  all_goals frame_out
  all_goals generalize (outsAt0 m c (t.val - 1) _).2 = prev
  all_goals rw [← pay_blk]
  all_goals pointwise [k0_pay3]
  all_goals rw [read_unread_whole]

/-- The last point of a run writes the accumulator out. -/
theorem last (c : Dev nD) (t : Fin cfg0.N) (h : t.val % 4 = 3) (y : S1024x128.Idx) :
    ((outsAt0 m c t.val t.isLt).1 y : EReal) = (outsAt0 m c t.val t.isLt).2 y := by
  rw [outsAt0_C m c t (by omega) (by omega) h]
  frame_out
  pointwise [k0_pay4]

/-- The result, in closed form. -/
theorem arr (c : Dev nD) : (dats m 0 c).arrAt 2 cfg0.N = fun y => ∑ k : Fin 8192, lhs m c k (y 0) * rhs m c k (y 1) := by
  refine (dats m 0 c).arrAt_eq_of_covers 2 _ (by decide +kernel) fun t hf y => ?_
  have ht := (flush0_2 t).mp hf
  blk_simp [idx t]
  rw [after0_2, last m c t ht, Pipeline.eq_sum_fin_of_reset_step_apply_of_flush (fun n h => (outsAt0 m c n h).2) 4 (fun _ => 0) (term m c)
    (first m c) (next m c) t ht _, zero_add]
  refine Fin.sum_mul_add_congr fun s k hl => ?_
  have hs : (4 * (t.val / 4) + s.val) / 4 = t.val / 4 ∧ (4 * (t.val / 4) + s.val) % 4 = s.val := by omega
  refine congr (congrArg _ (congr (congrArg _ ?_) ?_)) (congr (congrArg _ ?_) ?_)
  all_goals apply Fin.ext
  on_goal 2 => blk_simp [idx t]
  on_goal 4 => blk_simp [idx t]
  all_goals dsimp only
  all_goals omega

/-- The reference's gradient, in closed form. -/
theorem ref (c : Dev nD) : (Cert.Reference13Ideal.Read.val_main_v6 (F := Ideal) (m ((c : Thread nD τ).loc main_arg0)) (m ((c : Thread nD τ).loc main_arg1)) : S2048x128.Idx → EReal) =
    fun y => ∑ k : Fin 8192, lhs m c k (y 0) * rhs m c k (y 1) := by
  funext y
  rw [Cert.Reference13Ideal.Read.val_main_v6_apply, Cert.Reference13Ideal.Read.val_main_v5_apply, Cert.Reference13Ideal.Read.val_main_v4_apply]
  refine Finset.sum_congr rfl fun k _ => ?_
  rw [Cert.Reference13Ideal.Read.val_main_v3_apply, Cert.Reference13Ideal.Read.val_main_v0_apply]
  unfold lhs rhs
  refine (mul_comm _ _).trans ?_
  congr 1
  · exact congrArg _ (by blk_ext)
  · exact congrArg _ (by blk_ext)

/-- The kernel ends with the reference's gradient in its output. -/
theorem algebraic : Cert.algebraic_Kernel13Ideal_Reference13Ideal := by
  intro m g m' g' _ he
  refine ⟨fun c => (dats m 0 c).arrAt 2 cfg0.N, Cert.Kernel13Ideal.Value.run_blocks m g, ?_⟩
  refine (θ_run Cert.Reference13Ideal.defs _ _).mono (fun r h c => ⟨(h c).1.trans ?_, (h c).2⟩) (Cert.Reference13Ideal.Value.run m' g')
  rw [Cert.Reference13Ideal.Read.val_main_v6_eq, (he c).1, (he c).2]
  exact (ref m c).trans (arr m c).symm

/-- The reference ends with its arguments as they were; it declares no semaphore. -/
theorem frame : Cert.quiescent_Reference13Ideal := fun m g _ =>
  (θ_run Cert.Reference13Ideal.defs _ _).mono (fun r h => ⟨fun c => (h c).2, sem_eq_zero_of_no_sems (by decide) r.2⟩)
    (Cert.Reference13Ideal.Value.run (F := Ideal) m g)

end Cert.GateWeight
end
-- ==== Proof.MemoryProduct.lean ====
module
public import proofs.«01_k».proof.Proof.Gen.Kernel15Ideal.Value
public import proofs.«01_k».proof.Proof.Gen.Reference15Ideal.Read
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! The keys' and values' projection of the memory: one product for each tile, its result cast. -/

@[expose] public section
set_option maxRecDepth 16384
noncomputable section
open Idealize.ShloMosaic Idealize.ShloMosaic.TcCoe Idealize.SL.Sem
namespace Cert.MemoryProduct
open Cert.Kernel15Ideal Cert.Kernel15Ideal.Gen

variable (m : (ℓ : Loc nD τ sig) → Buf (Elt Ideal) ℓ)

/-- The block each window takes at a point. -/
theorem idx : ∀ t : Fin cfg0.N, win0_0.index t = ![0, 0] ∧ win0_1.index t = ![0, t.val] ∧
    win0_2.index t = ![0, t.val] := (by decide +kernel : ∀ t : Fin grid0.N, _)

/-- The left operand, by row and column. -/
def lhs (c : Dev nD) : Fin 256 → Fin 2048 → EReal := fun s x => m ((c : Thread nD τ).loc main_arg0) (ix2 s x)
/-- The right operand, by row and column. -/
def rhs (c : Dev nD) : Fin 2048 → Fin 4096 → EReal := fun s x => m ((c : Thread nD τ).loc main_arg1) (ix2 s x)

/-- The product of two tiles. -/
theorem pay (a : FVec Ideal S256x2048 .bf16) (b : FVec Ideal S2048x1024 .bf16) (r : Fin 256) (s : Fin 1024) :
    (k0_pay1 (F := Ideal) a b (ix2 r s) : EReal) = ∑ k : Fin 2048, a (ix2 r k) * b (ix2 k s) := by
  pointwise [k0_pay1]

/-- What a point leaves in its block. -/
theorem point (c : Dev nD) (t : Fin cfg0.N) (y : S256x1024.Idx) :
    (out0_2 (F := Ideal) (iblk m c 0 t) (iblk m c 1 t) y : EReal) =
      ∑ k : Fin 2048, lhs m c (y 0) k
        * rhs m c k ⟨1024 * t.val + (y 1).val, by have : t.val < 4 := t.isLt; have : (y 1).val < 1024 := (y 1).isLt; omega⟩ := by
  obtain ⟨r, s, rfl⟩ : ∃ (r : Fin 256) (s : Fin 1024), y = ix2 r s := ⟨y 0, y 1, by blk_ext⟩
  frame_out
  rw [pay]
  unfold lhs rhs
  refine Finset.sum_congr rfl fun k _ => ?_
  congr 1
  all_goals blk_point [iblk, V, idx t]

/-- The result, in closed form. -/
theorem arr (c : Dev nD) : (dats m 0 c).arrAt 2 cfg0.N = fun y => ∑ k : Fin 2048, lhs m c (y 0) k * rhs m c k (y 1) := by
  refine (dats m 0 c).arrAt_eq_of_covers 2 _ (by decide +kernel) fun t hf y => ?_
  blk_simp [idx t]
  rw [after0_2, point]
  refine Fin.sum_fin_congr fun k => ?_
  refine congr (congrArg _ (congrFun (congrArg _ ?_) _)) (congrArg _ ?_)
  all_goals apply Fin.ext
  all_goals blk_simp [idx t]
  all_goals dsimp only
  all_goals omega

/-- The reference's product, in closed form. -/
theorem ref (c : Dev nD) : (Cert.Reference15Ideal.Read.val_main_v3 (F := Ideal) (m ((c : Thread nD τ).loc main_arg0)) (m ((c : Thread nD τ).loc main_arg1)) : S256x4096.Idx → EReal) =
    fun y => ∑ k : Fin 2048, lhs m c (y 0) k * rhs m c k (y 1) := by
  funext y
  rw [Cert.Reference15Ideal.Read.val_main_v3_apply, Cert.Reference15Ideal.Read.val_main_v2_apply]
  refine Finset.sum_congr rfl fun k _ => ?_
  rw [Cert.Reference15Ideal.Read.val_main_v1_apply, Cert.Reference15Ideal.Read.val_main_v0_apply]
  unfold lhs rhs
  congr 1
  · exact congrArg _ (by blk_ext)
  · exact congrArg _ (by blk_ext)

/-- The kernel ends with the reference's product in its output. -/
theorem algebraic : Cert.algebraic_Kernel15Ideal_Reference15Ideal := by
  intro m g m' g' _ he
  refine ⟨fun c => (dats m 0 c).arrAt 2 cfg0.N, Cert.Kernel15Ideal.Value.run_blocks m g, ?_⟩
  refine (θ_run Cert.Reference15Ideal.defs _ _).mono (fun r h c => ⟨(h c).1.trans ?_, (h c).2⟩) (Cert.Reference15Ideal.Value.run m' g')
  rw [Cert.Reference15Ideal.Read.val_main_v3_eq, (he c).1, (he c).2]
  exact (ref m c).trans (arr m c).symm

/-- The reference ends with its arguments as they were; it declares no semaphore. -/
theorem frame : Cert.quiescent_Reference15Ideal := fun m g _ =>
  (θ_run Cert.Reference15Ideal.defs _ _).mono (fun r h => ⟨fun c => (h c).2, sem_eq_zero_of_no_sems (by decide) r.2⟩)
    (Cert.Reference15Ideal.Value.run (F := Ideal) m g)

end Cert.MemoryProduct
end
-- ==== Proof.GateProduct.lean ====
module
public import proofs.«01_k».proof.Proof.Gen.Kernel16Ideal.Value
public import proofs.«01_k».proof.Proof.Gen.Reference16Ideal.Read
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! The gates' projection: one product for each tile. -/

@[expose] public section
set_option maxRecDepth 16384
noncomputable section
open Idealize.ShloMosaic Idealize.ShloMosaic.TcCoe Idealize.SL.Sem
namespace Cert.GateProduct
open Cert.Kernel16Ideal Cert.Kernel16Ideal.Gen

variable (m : (ℓ : Loc nD τ sig) → Buf (Elt Ideal) ℓ)

/-- The block each window takes at a point. -/
theorem idx : ∀ t : Fin cfg0.N, win0_0.index t = ![t.val, 0] ∧ win0_1.index t = ![0, 0] ∧
    win0_2.index t = ![t.val, 0] := (by decide +kernel : ∀ t : Fin grid0.N, _)

/-- The left operand, by row and column. -/
def lhs (c : Dev nD) : Fin 8192 → Fin 2048 → EReal := fun s x => m ((c : Thread nD τ).loc main_arg0) (ix2 s x)
/-- The right operand, by row and column. -/
def rhs (c : Dev nD) : Fin 2048 → Fin 128 → EReal := fun s x => m ((c : Thread nD τ).loc main_arg1) (ix2 s x)

/-- The product of two tiles. -/
theorem pay (a : FVec Ideal S1024x2048 .bf16) (b : FVec Ideal S2048x128 .bf16) (r : Fin 1024) (s : Fin 128) :
    (k0_pay1 (F := Ideal) a b (ix2 r s) : EReal) = ∑ k : Fin 2048, a (ix2 r k) * b (ix2 k s) := by
  pointwise [k0_pay1]

/-- What a point leaves in its block. -/
theorem point (c : Dev nD) (t : Fin cfg0.N) (y : S1024x128.Idx) :
    (out0_2 (F := Ideal) (iblk m c 0 t) (iblk m c 1 t) y : EReal) =
      ∑ k : Fin 2048, lhs m c ⟨1024 * t.val + (y 0).val, by have : t.val < 8 := t.isLt; have : (y 0).val < 1024 := (y 0).isLt; omega⟩ k
        * rhs m c k (y 1) := by
  obtain ⟨r, s, rfl⟩ : ∃ (r : Fin 1024) (s : Fin 128), y = ix2 r s := ⟨y 0, y 1, by blk_ext⟩
  frame_out
  rw [pay]
  unfold lhs rhs
  refine Finset.sum_congr rfl fun k _ => ?_
  congr 1
  all_goals blk_point [iblk, V, idx t]

/-- The result, in closed form. -/
theorem arr (c : Dev nD) : (dats m 0 c).arrAt 2 cfg0.N = fun y => ∑ k : Fin 2048, lhs m c (y 0) k * rhs m c k (y 1) := by
  refine (dats m 0 c).arrAt_eq_of_covers 2 _ (by decide +kernel) fun t hf y => ?_
  blk_simp [idx t]
  rw [after0_2, point]
  refine Fin.sum_fin_congr fun k => ?_
  refine congr (congrArg _ (congrFun (congrArg _ ?_) _)) (congrArg _ ?_)
  all_goals apply Fin.ext
  all_goals blk_simp [idx t]
  all_goals dsimp only
  all_goals omega

/-- The reference's product, in closed form. -/
theorem ref (c : Dev nD) : (Cert.Reference16Ideal.Read.val_main_v2 (F := Ideal) (m ((c : Thread nD τ).loc main_arg0)) (m ((c : Thread nD τ).loc main_arg1)) : S8192x128.Idx → EReal) =
    fun y => ∑ k : Fin 2048, lhs m c (y 0) k * rhs m c k (y 1) := by
  funext y
  rw [Cert.Reference16Ideal.Read.val_main_v2_apply]
  refine Finset.sum_congr rfl fun k _ => ?_
  rw [Cert.Reference16Ideal.Read.val_main_v1_apply, Cert.Reference16Ideal.Read.val_main_v0_apply]
  unfold lhs rhs
  congr 1
  · exact congrArg _ (by blk_ext)
  · exact congrArg _ (by blk_ext)

/-- The kernel ends with the reference's product in its output. -/
theorem algebraic : Cert.algebraic_Kernel16Ideal_Reference16Ideal := by
  intro m g m' g' _ he
  refine ⟨fun c => (dats m 0 c).arrAt 2 cfg0.N, Cert.Kernel16Ideal.Value.run_blocks m g, ?_⟩
  refine (θ_run Cert.Reference16Ideal.defs _ _).mono (fun r h c => ⟨(h c).1.trans ?_, (h c).2⟩) (Cert.Reference16Ideal.Value.run m' g')
  rw [Cert.Reference16Ideal.Read.val_main_v2_eq, (he c).1, (he c).2]
  exact (ref m c).trans (arr m c).symm

/-- The reference ends with its arguments as they were; it declares no semaphore. -/
theorem frame : Cert.quiescent_Reference16Ideal := fun m g _ =>
  (θ_run Cert.Reference16Ideal.defs _ _).mono (fun r h => ⟨fun c => (h c).2, sem_eq_zero_of_no_sems (by decide) r.2⟩)
    (Cert.Reference16Ideal.Value.run (F := Ideal) m g)

end Cert.GateProduct
end
-- ==== Proof.Adam.lean ====
module
public import Idealize.ShloMosaic.Lib.Pipeline.ValueKit
public import Idealize.ShloMosaic.Lib.Pipeline.ReadBack
public import Idealize.ShloMosaic.Lib.Pointwise

/-! One element's step of the optimiser, its constants read from their bits. -/

@[expose] public section
noncomputable section
open Idealize.ShloMosaic
namespace Cert.Adam

/-- The new first moment. -/
def first (g m : EReal) : EReal := Ideal.ofBits .f32 0x3F666666#32 * m + Ideal.ofBits .f32 0x3DCCCCCD#32 * g
/-- The new second moment. -/
def second (g v : EReal) : EReal := Ideal.ofBits .f32 0x3F7FBE77#32 * v + Ideal.ofBits .f32 0x3A83126F#32 * (g * g)
/-- The change of the weight. -/
def delta (g w m v : EReal) : EReal := Ideal.ofBits .f32 0xBA83126F#32 *
  (Ideal.div (Ideal.div (first g m) (Ideal.ofBits .f32 0x3F26BD02#32))
    (Ideal.sqrt (Ideal.div (second g v) (Ideal.ofBits .f32 0x3C231ACC#32)) + Ideal.ofBits .f32 0x322BCC77#32) + Ideal.ofBits .f32 0x3C23D70A#32 * w)

/-- Two halves' rows, one under the other. -/
def halves {n N C : ℕ} (h : N = n + n) (a b : Fin n → Fin C → EReal) (s : Fin N) (j : Fin C) : EReal :=
  if p : s.val < n then a ⟨s.val, p⟩ j else b ⟨s.val - n, by omega⟩ j

/-- Two arrays joined by their rows, element by element. -/
theorem concat_apply {n N C : ℕ} (h : N = n + n) (a b : (⟨2, ![n, C]⟩ : Shape).Idx → EReal)
    (hc : Shape.Concatenates (([⟨⟨2, ![n, C]⟩, a⟩, ⟨⟨2, ![n, C]⟩, b⟩] : List ((s : Shape) × (s.Idx → EReal))).map (·.1)) ⟨2, ![N, C]⟩ 0) (s : Fin N) (j : Fin C) :
    concatenate (⟨2, ![N, C]⟩ : Shape) 0 [⟨⟨2, ![n, C]⟩, a⟩, ⟨⟨2, ![n, C]⟩, b⟩] hc (ix2 s j) =
      halves h (fun s k => a (ix2 s k)) (fun s k => b (ix2 s k)) s j := by
  unfold halves
  split
  · rename_i p
    refine concatenate_apply_piece (t := ⟨2, ![N, C]⟩) 0 _ hc _ 0 ?_ ⟨2, ![n, C]⟩ a ?_ rfl 0 ?_ (ix2 ⟨s.val, p⟩ j) ?_ ?_
    · simp
    · rfl
    · rfl
    · intro b hb; fin_cases b; exacts [absurd rfl hb, rfl]
    · simp
  · rename_i p
    refine concatenate_apply_piece (t := ⟨2, ![N, C]⟩) 0 _ hc _ 1 ?_ ⟨2, ![n, C]⟩ b ?_ rfl n ?_ (ix2 ⟨s.val - n, by omega⟩ j) ?_ ?_
    · simp
    · rfl
    · simp
    · intro b hb; fin_cases b; exacts [absurd rfl hb, rfl]
    · simp; omega

end Cert.Adam
end
-- ==== Proof.AdamSmall.lean ====
module
public import proofs.«01_k».proof.Proof.Gen.Kernel17Ideal.Value
public import proofs.«01_k».proof.Proof.Gen.Reference17Ideal.Read
public import proofs.«01_k».proof.Proof.Adam
public import Idealize.ShloMosaic.Lib.Pipeline.ValueKit
public import Idealize.ShloMosaic.Lib.Pointwise
public import Idealize.ShloMosaic.Adequacy
public import proofs.«01_k».proof.Defs

/-! The optimiser's step on the small weights: the sum of the devices' gradients and the new moments, element by element. -/

@[expose] public section
set_option maxRecDepth 16384
noncomputable section
open Idealize.ShloMosaic Idealize.ShloMosaic.TcCoe Idealize.SL.Sem
namespace Cert.AdamSmall
open Cert.Kernel17Ideal Cert.Kernel17Ideal.Gen Cert.Kernel17Ideal.Value

section
variable (x : Vec Ideal S8x8x2048 .f32) (w m v : Vec Ideal S8x2048 .f32) (r : Fin 8) (j : Fin 2048)

/-- The sum of the devices' gradients. -/
def sum8 : EReal := ∑ k : Fin 8, (x (ix3 k r j) : EReal)

theorem grad : (G4 (F := Ideal) x w m v (ix2 r j) : EReal) = sum8 x r j := by
  unfold sum8
  rw [Fin.sum_univ_eight]
  pointwise [k0_pay5, k0_pay3]
theorem mom : (G6 (F := Ideal) x w m v (ix2 r j) : EReal) = Cert.Adam.first (sum8 x r j) (m (ix2 r j)) := by
  have h := grad x w m v r j
  unfold Cert.Adam.first
  rw [← h]
  pointwise [k0_pay6, k0_pay4, k0_pay5]
theorem sec : (G7 (F := Ideal) x w m v (ix2 r j) : EReal) = Cert.Adam.second (sum8 x r j) (v (ix2 r j)) := by
  have h := grad x w m v r j
  unfold Cert.Adam.second
  rw [← h]
  pointwise [k0_pay1]
theorem del : (G5 (F := Ideal) x w m v (ix2 r j) : EReal) = Cert.Adam.delta (sum8 x r j) (w (ix2 r j)) (m (ix2 r j)) (v (ix2 r j)) := by
  have h2 := mom x w m v r j
  have h3 := sec x w m v r j
  unfold Cert.Adam.delta
  rw [← h2, ← h3]
  pointwise [k0_pay2, k0_pay1]
end

section Reference
open Cert.Reference17Ideal.Read
variable (x : Vec Ideal S8x8x2048 .f32) (w m v : Vec Ideal S8x2048 .f32) (r : Fin 8) (j : Fin 2048)

theorem ref_grad : (val_main_v0 (F := Ideal) x (ix2 r j) : EReal) = sum8 x r j := by
  have e : ∀ k, idx_main_v0 (ix2 r j) k = ix3 k r j := fun k => by blk_ext
  rw [val_main_v0_apply, val_main_cst_apply, Ideal.ofBits_def, Ideal.ofBits_zero_f32, zero_add]
  simp only [e]
  rfl
theorem ref_mom : (val_main_v5 (F := Ideal) x m (ix2 r j) : EReal) = Cert.Adam.first (sum8 x r j) (m (ix2 r j)) := by
  rw [val_main_v5_apply, val_main_v4_apply, ref_grad, val_main_v3_apply, val_main_cst_1_apply, val_main_v2_apply, val_main_v1_apply, val_main_cst_0_apply]
  rfl
theorem ref_sec : (val_main_v11 (F := Ideal) x v (ix2 r j) : EReal) = Cert.Adam.second (sum8 x r j) (v (ix2 r j)) := by
  rw [val_main_v11_apply, val_main_v10_apply, val_main_v9_apply, val_main_v8_apply, ref_grad, val_main_cst_3_apply, val_main_v7_apply, val_main_v6_apply,
    val_main_cst_2_apply]
  rfl
theorem ref_del : (val_main_v24 (F := Ideal) x w m v (ix2 r j) : EReal) = Cert.Adam.delta (sum8 x r j) (w (ix2 r j)) (m (ix2 r j)) (v (ix2 r j)) := by
  rw [val_main_v24_apply, val_main_v23_apply, val_main_cst_8_apply, val_main_v22_apply, val_main_v21_apply, val_main_v20_apply, val_main_cst_7_apply,
    val_main_v19_apply, val_main_v13_apply, val_main_v12_apply, val_main_cst_4_apply, ref_mom, val_main_v18_apply, val_main_v17_apply, val_main_cst_6_apply,
    val_main_v16_apply, val_main_v15_apply, val_main_v14_apply, val_main_cst_5_apply, ref_sec]
  rfl
end Reference

/-- The kernel ends with the reference's gradient, change and moments in its outputs. -/
theorem algebraic : Cert.algebraic_Kernel17Ideal_Reference17Ideal := by
  intro m g m' g' _ he
  refine ⟨_, _, _, _, Cert.Kernel17Ideal.Value.run m g, ?_⟩
  refine (θ_run Cert.Reference17Ideal.defs _ _).mono (fun r h c => ?_) (Cert.Reference17Ideal.Value.run m' g')
  obtain ⟨h0, h1, h2, h3, ha⟩ := h c
  obtain ⟨e0, e1, e2, e3⟩ := he c
  have pair : ∀ y : S8x2048.Idx, y = ix2 (y 0 : Fin 8) (y 1 : Fin 2048) := fun y => by blk_ext
  refine ⟨h0.trans ?_, h1.trans ?_, h2.trans ?_, h3.trans ?_, ha⟩
  · rw [Cert.Reference17Ideal.Read.val_main_v0_eq, e0]
    funext y; rw [pair y]
    exact (ref_grad _ _ _).trans (grad _ _ _ _ _ _).symm
  · rw [Cert.Reference17Ideal.Read.val_main_v24_eq, e0, e1, e2, e3]
    funext y; rw [pair y]
    exact (ref_del _ _ _ _ _ _).trans (del _ _ _ _ _ _).symm
  · rw [Cert.Reference17Ideal.Read.val_main_v5_eq, e0, e2]
    funext y; rw [pair y]
    exact (ref_mom _ _ _ _).trans (mom _ _ _ _ _ _).symm
  · rw [Cert.Reference17Ideal.Read.val_main_v11_eq, e0, e3]
    funext y; rw [pair y]
    exact (ref_sec _ _ _ _).trans (sec _ _ _ _ _ _).symm

/-- The reference ends with its arguments as they were; it declares no semaphore. -/
theorem frame : Cert.quiescent_Reference17Ideal := fun m g _ =>
  (θ_run Cert.Reference17Ideal.defs _ _).mono (fun r h => ⟨fun c => (h c).2.2.2.2, sem_eq_zero_of_no_sems (by decide) r.2⟩)
    (Cert.Reference17Ideal.Value.run (F := Ideal) m g)

end Cert.AdamSmall
end
-- ==== Proof.AdamConv.lean ====
module
public import proofs.«01_k».proof.Proof.Gen.Kernel18Ideal.Value
public import proofs.«01_k».proof.Proof.Gen.Reference18Ideal.Read
public import proofs.«01_k».proof.Proof.Adam
public import Idealize.ShloMosaic.Lib.Pipeline.ValueKit
public import Idealize.ShloMosaic.Lib.Pointwise
public import Idealize.ShloMosaic.Adequacy
public import proofs.«01_k».proof.Defs

/-! The optimiser's step on the causal convolution's weights: the sum of the devices' gradients and the new moments, element by element. -/

@[expose] public section
set_option maxRecDepth 16384
noncomputable section
open Idealize.ShloMosaic Idealize.ShloMosaic.TcCoe Idealize.SL.Sem
namespace Cert.AdamConv
open Cert.Kernel18Ideal Cert.Kernel18Ideal.Gen Cert.Kernel18Ideal.Value

section
variable (x : Vec Ideal S8x4x1024 .f32) (w m v : Vec Ideal S4x1024 .f32) (r : Fin 4) (j : Fin 1024)

/-- The sum of the devices' gradients. -/
def sum8 : EReal := ∑ k : Fin 8, (x (ix3 k r j) : EReal)

theorem grad : (G4 (F := Ideal) x w m v (ix2 r j) : EReal) = sum8 x r j := by
  unfold sum8
  rw [Fin.sum_univ_eight]
  pointwise [k0_pay5, k0_pay3]
theorem mom : (G6 (F := Ideal) x w m v (ix2 r j) : EReal) = Cert.Adam.first (sum8 x r j) (m (ix2 r j)) := by
  have h := grad x w m v r j
  unfold Cert.Adam.first
  rw [← h]
  pointwise [k0_pay6, k0_pay4, k0_pay5]
theorem sec : (G7 (F := Ideal) x w m v (ix2 r j) : EReal) = Cert.Adam.second (sum8 x r j) (v (ix2 r j)) := by
  have h := grad x w m v r j
  unfold Cert.Adam.second
  rw [← h]
  pointwise [k0_pay1]
theorem del : (G5 (F := Ideal) x w m v (ix2 r j) : EReal) = Cert.Adam.delta (sum8 x r j) (w (ix2 r j)) (m (ix2 r j)) (v (ix2 r j)) := by
  have h2 := mom x w m v r j
  have h3 := sec x w m v r j
  unfold Cert.Adam.delta
  rw [← h2, ← h3]
  pointwise [k0_pay2, k0_pay1]
end

section Reference
open Cert.Reference18Ideal.Read
variable (x : Vec Ideal S8x4x1024 .f32) (w m v : Vec Ideal S4x1024 .f32) (r : Fin 4) (j : Fin 1024)

theorem ref_grad : (val_main_v0 (F := Ideal) x (ix2 r j) : EReal) = sum8 x r j := by
  have e : ∀ k, idx_main_v0 (ix2 r j) k = ix3 k r j := fun k => by blk_ext
  rw [val_main_v0_apply, val_main_cst_apply, Ideal.ofBits_def, Ideal.ofBits_zero_f32, zero_add]
  simp only [e]
  rfl
theorem ref_mom : (val_main_v5 (F := Ideal) x m (ix2 r j) : EReal) = Cert.Adam.first (sum8 x r j) (m (ix2 r j)) := by
  rw [val_main_v5_apply, val_main_v4_apply, ref_grad, val_main_v3_apply, val_main_cst_1_apply, val_main_v2_apply, val_main_v1_apply, val_main_cst_0_apply]
  rfl
theorem ref_sec : (val_main_v11 (F := Ideal) x v (ix2 r j) : EReal) = Cert.Adam.second (sum8 x r j) (v (ix2 r j)) := by
  rw [val_main_v11_apply, val_main_v10_apply, val_main_v9_apply, val_main_v8_apply, ref_grad, val_main_cst_3_apply, val_main_v7_apply, val_main_v6_apply,
    val_main_cst_2_apply]
  rfl
theorem ref_del : (val_main_v24 (F := Ideal) x w m v (ix2 r j) : EReal) = Cert.Adam.delta (sum8 x r j) (w (ix2 r j)) (m (ix2 r j)) (v (ix2 r j)) := by
  rw [val_main_v24_apply, val_main_v23_apply, val_main_cst_8_apply, val_main_v22_apply, val_main_v21_apply, val_main_v20_apply, val_main_cst_7_apply,
    val_main_v19_apply, val_main_v13_apply, val_main_v12_apply, val_main_cst_4_apply, ref_mom, val_main_v18_apply, val_main_v17_apply, val_main_cst_6_apply,
    val_main_v16_apply, val_main_v15_apply, val_main_v14_apply, val_main_cst_5_apply, ref_sec]
  rfl
end Reference

/-- The kernel ends with the reference's gradient, change and moments in its outputs. -/
theorem algebraic : Cert.algebraic_Kernel18Ideal_Reference18Ideal := by
  intro m g m' g' _ he
  refine ⟨_, _, _, _, Cert.Kernel18Ideal.Value.run m g, ?_⟩
  refine (θ_run Cert.Reference18Ideal.defs _ _).mono (fun r h c => ?_) (Cert.Reference18Ideal.Value.run m' g')
  obtain ⟨h0, h1, h2, h3, ha⟩ := h c
  obtain ⟨e0, e1, e2, e3⟩ := he c
  have pair : ∀ y : S4x1024.Idx, y = ix2 (y 0 : Fin 4) (y 1 : Fin 1024) := fun y => by blk_ext
  refine ⟨h0.trans ?_, h1.trans ?_, h2.trans ?_, h3.trans ?_, ha⟩
  · rw [Cert.Reference18Ideal.Read.val_main_v0_eq, e0]
    funext y; rw [pair y]
    exact (ref_grad _ _ _).trans (grad _ _ _ _ _ _).symm
  · rw [Cert.Reference18Ideal.Read.val_main_v24_eq, e0, e1, e2, e3]
    funext y; rw [pair y]
    exact (ref_del _ _ _ _ _ _).trans (del _ _ _ _ _ _).symm
  · rw [Cert.Reference18Ideal.Read.val_main_v5_eq, e0, e2]
    funext y; rw [pair y]
    exact (ref_mom _ _ _ _).trans (mom _ _ _ _ _ _).symm
  · rw [Cert.Reference18Ideal.Read.val_main_v11_eq, e0, e3]
    funext y; rw [pair y]
    exact (ref_sec _ _ _ _).trans (sec _ _ _ _ _ _).symm

/-- The reference ends with its arguments as they were; it declares no semaphore. -/
theorem frame : Cert.quiescent_Reference18Ideal := fun m g _ =>
  (θ_run Cert.Reference18Ideal.defs _ _).mono (fun r h => ⟨fun c => (h c).2.2.2.2, sem_eq_zero_of_no_sems (by decide) r.2⟩)
    (Cert.Reference18Ideal.Value.run (F := Ideal) m g)

end Cert.AdamConv
end
-- ==== Proof.AdamDepthwise.lean ====
module
public import proofs.«01_k».proof.Proof.Gen.Kernel19Ideal.Value
public import proofs.«01_k».proof.Proof.Gen.Reference19Ideal.Read
public import proofs.«01_k».proof.Proof.Adam
public import Idealize.ShloMosaic.Lib.Pipeline.ValueKit
public import Idealize.ShloMosaic.Lib.Pointwise
public import Idealize.ShloMosaic.Adequacy
public import proofs.«01_k».proof.Defs

/-! The optimiser's step on the depthwise convolution's weights: the sum of the devices' gradients and the new moments, element by element. -/

@[expose] public section
set_option maxRecDepth 16384
noncomputable section
open Idealize.ShloMosaic Idealize.ShloMosaic.TcCoe Idealize.SL.Sem
namespace Cert.AdamDepthwise
open Cert.Kernel19Ideal Cert.Kernel19Ideal.Gen Cert.Kernel19Ideal.Value

section
variable (x : Vec Ideal S8x31x512 .f32) (w m v : Vec Ideal S31x512 .f32) (r : Fin 31) (j : Fin 512)

/-- The sum of the devices' gradients. -/
def sum8 : EReal := ∑ k : Fin 8, (x (ix3 k r j) : EReal)

theorem grad : (G4 (F := Ideal) x w m v (ix2 r j) : EReal) = sum8 x r j := by
  unfold sum8
  rw [Fin.sum_univ_eight]
  pointwise [k0_pay5, k0_pay3]
theorem mom : (G6 (F := Ideal) x w m v (ix2 r j) : EReal) = Cert.Adam.first (sum8 x r j) (m (ix2 r j)) := by
  have h := grad x w m v r j
  unfold Cert.Adam.first
  rw [← h]
  pointwise [k0_pay6, k0_pay4, k0_pay5]
theorem sec : (G7 (F := Ideal) x w m v (ix2 r j) : EReal) = Cert.Adam.second (sum8 x r j) (v (ix2 r j)) := by
  have h := grad x w m v r j
  unfold Cert.Adam.second
  rw [← h]
  pointwise [k0_pay1]
theorem del : (G5 (F := Ideal) x w m v (ix2 r j) : EReal) = Cert.Adam.delta (sum8 x r j) (w (ix2 r j)) (m (ix2 r j)) (v (ix2 r j)) := by
  have h2 := mom x w m v r j
  have h3 := sec x w m v r j
  unfold Cert.Adam.delta
  rw [← h2, ← h3]
  pointwise [k0_pay2, k0_pay1]
end

section Reference
open Cert.Reference19Ideal.Read
variable (x : Vec Ideal S8x31x512 .f32) (w m v : Vec Ideal S31x512 .f32) (r : Fin 31) (j : Fin 512)

theorem ref_grad : (val_main_v0 (F := Ideal) x (ix2 r j) : EReal) = sum8 x r j := by
  have e : ∀ k, idx_main_v0 (ix2 r j) k = ix3 k r j := fun k => by blk_ext
  rw [val_main_v0_apply, val_main_cst_apply, Ideal.ofBits_def, Ideal.ofBits_zero_f32, zero_add]
  simp only [e]
  rfl
theorem ref_mom : (val_main_v5 (F := Ideal) x m (ix2 r j) : EReal) = Cert.Adam.first (sum8 x r j) (m (ix2 r j)) := by
  rw [val_main_v5_apply, val_main_v4_apply, ref_grad, val_main_v3_apply, val_main_cst_1_apply, val_main_v2_apply, val_main_v1_apply, val_main_cst_0_apply]
  rfl
theorem ref_sec : (val_main_v11 (F := Ideal) x v (ix2 r j) : EReal) = Cert.Adam.second (sum8 x r j) (v (ix2 r j)) := by
  rw [val_main_v11_apply, val_main_v10_apply, val_main_v9_apply, val_main_v8_apply, ref_grad, val_main_cst_3_apply, val_main_v7_apply, val_main_v6_apply,
    val_main_cst_2_apply]
  rfl
theorem ref_del : (val_main_v24 (F := Ideal) x w m v (ix2 r j) : EReal) = Cert.Adam.delta (sum8 x r j) (w (ix2 r j)) (m (ix2 r j)) (v (ix2 r j)) := by
  rw [val_main_v24_apply, val_main_v23_apply, val_main_cst_8_apply, val_main_v22_apply, val_main_v21_apply, val_main_v20_apply, val_main_cst_7_apply,
    val_main_v19_apply, val_main_v13_apply, val_main_v12_apply, val_main_cst_4_apply, ref_mom, val_main_v18_apply, val_main_v17_apply, val_main_cst_6_apply,
    val_main_v16_apply, val_main_v15_apply, val_main_v14_apply, val_main_cst_5_apply, ref_sec]
  rfl
end Reference

/-- The kernel ends with the reference's gradient, change and moments in its outputs. -/
theorem algebraic : Cert.algebraic_Kernel19Ideal_Reference19Ideal := by
  intro m g m' g' _ he
  refine ⟨_, _, _, _, Cert.Kernel19Ideal.Value.run m g, ?_⟩
  refine (θ_run Cert.Reference19Ideal.defs _ _).mono (fun r h c => ?_) (Cert.Reference19Ideal.Value.run m' g')
  obtain ⟨h0, h1, h2, h3, ha⟩ := h c
  obtain ⟨e0, e1, e2, e3⟩ := he c
  have pair : ∀ y : S31x512.Idx, y = ix2 (y 0 : Fin 31) (y 1 : Fin 512) := fun y => by blk_ext
  refine ⟨h0.trans ?_, h1.trans ?_, h2.trans ?_, h3.trans ?_, ha⟩
  · rw [Cert.Reference19Ideal.Read.val_main_v0_eq, e0]
    funext y; rw [pair y]
    exact (ref_grad _ _ _).trans (grad _ _ _ _ _ _).symm
  · rw [Cert.Reference19Ideal.Read.val_main_v24_eq, e0, e1, e2, e3]
    funext y; rw [pair y]
    exact (ref_del _ _ _ _ _ _).trans (del _ _ _ _ _ _).symm
  · rw [Cert.Reference19Ideal.Read.val_main_v5_eq, e0, e2]
    funext y; rw [pair y]
    exact (ref_mom _ _ _ _).trans (mom _ _ _ _ _ _).symm
  · rw [Cert.Reference19Ideal.Read.val_main_v11_eq, e0, e3]
    funext y; rw [pair y]
    exact (ref_sec _ _ _ _).trans (sec _ _ _ _ _ _).symm

/-- The reference ends with its arguments as they were; it declares no semaphore. -/
theorem frame : Cert.quiescent_Reference19Ideal := fun m g _ =>
  (θ_run Cert.Reference19Ideal.defs _ _).mono (fun r h => ⟨fun c => (h c).2.2.2.2, sem_eq_zero_of_no_sems (by decide) r.2⟩)
    (Cert.Reference19Ideal.Value.run (F := Ideal) m g)

end Cert.AdamDepthwise
end
-- ==== Proof.MergeForward.lean ====
module
public import proofs.«01_k».proof.Proof.Gen.Kernel14Ideal.Value
public import proofs.«01_k».proof.Proof.Gen.Reference14Ideal.Read
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! The gated merge of the three branches, tile by tile. -/

@[expose] public section
set_option maxRecDepth 16384
noncomputable section
open Idealize.ShloMosaic Idealize.ShloMosaic.TcCoe Idealize.SL.Sem
namespace Cert.MergeForward
open Cert.Kernel14Ideal Cert.Kernel14Ideal.Gen

variable (m : (ℓ : Loc nD τ sig) → Buf (Elt Ideal) ℓ)

/-- The merge: each branch times its gate. -/
def merged (y0 y1 y2 g0 g1 g2 : EReal) : EReal := Ideal.logistic g0 * y0 + Ideal.logistic g1 * y1 + Ideal.logistic g2 * y2

/-- The block each window takes at a point. -/
theorem idx : ∀ t : Fin cfg0.N, win0_0.index t = ![t.val, 0] ∧ win0_1.index t = ![t.val, 0] ∧ win0_2.index t = ![t.val, 0] ∧
    win0_3.index t = ![t.val, 10] ∧ win0_4.index t = ![t.val, 11] ∧ win0_5.index t = ![t.val, 12] ∧ win0_6.index t = ![t.val, 0] :=
  (by decide +kernel : ∀ t : Fin grid0.N, _)

/-- The convolution's branch. -/
def Y0 (c : Dev nD) : Fin 8192 → Fin 2048 → EReal := fun s k => m ((c : Thread nD τ).loc main_arg0) (ix2 s k)
/-- The recurrent branch. -/
def Y1 (c : Dev nD) : Fin 8192 → Fin 2048 → EReal := fun s k => m ((c : Thread nD τ).loc main_arg1) (ix2 s k)
/-- The attention's branch. -/
def Y2 (c : Dev nD) : Fin 8192 → Fin 2048 → EReal := fun s k => m ((c : Thread nD τ).loc main_arg2) (ix2 s k)
/-- The gates of branch `b`. -/
def P (c : Dev nD) (b : Fin 3) : Fin 8192 → Fin 2048 → EReal :=
  fun s k => m ((c : Thread nD τ).loc main_arg3) (ix2 s ⟨20480 + 2048 * b.val + k.val, by omega⟩)

/-- The row of the whole array a point's row is. -/
def at_ (t : Fin cfg0.N) (r : Fin 256) : Fin 8192 := ⟨256 * t.val + r.val, by have : t.val < 32 := t.isLt; omega⟩

/-- A tile's merge, element by element. -/
theorem pay (y0 y1 y2 g0 g1 g2 : FVec Ideal S256x2048 .f32) (i : S256x2048.Idx) :
    (k0_pay1 (F := Ideal) g0 y0 g1 y1 g2 y2 i : EReal) = merged (y0 i) (y1 i) (y2 i) (g0 i) (g1 i) (g2 i) := by
  unfold merged
  pointwise [k0_pay1]

/-- The tile's elements, read in the whole arrays. -/
theorem blk (c : Dev nD) (t : Fin cfg0.N) (r : Fin 256) (k : Fin 2048) :
    (iblk m c 0 t : FVec Ideal S256x2048 .f32) (ix2 r k) = Y0 m c (at_ t r) k ∧ (iblk m c 1 t : FVec Ideal S256x2048 .f32) (ix2 r k) = Y1 m c (at_ t r) k ∧
    (iblk m c 2 t : FVec Ideal S256x2048 .f32) (ix2 r k) = Y2 m c (at_ t r) k ∧ (iblk m c 3 t : FVec Ideal S256x2048 .f32) (ix2 r k) = P m c 0 (at_ t r) k ∧
    (iblk m c 4 t : FVec Ideal S256x2048 .f32) (ix2 r k) = P m c 1 (at_ t r) k ∧ (iblk m c 5 t : FVec Ideal S256x2048 .f32) (ix2 r k) = P m c 2 (at_ t r) k := by
  unfold Y0 Y1 Y2 P at_
  refine ⟨?_, ?_, ?_, ?_, ?_, ?_⟩
  all_goals blk_point [iblk, V, idx t]

/-- The merge at a row and a column of the whole arrays. -/
def out (c : Dev nD) (s : Fin 8192) (k : Fin 2048) : EReal :=
  merged (Y0 m c s k) (Y1 m c s k) (Y2 m c s k) (P m c 0 s k) (P m c 1 s k) (P m c 2 s k)

/-- The result, in closed form. -/
theorem arr (c : Dev nD) : (dats m 0 c).arrAt 6 cfg0.N = fun y => out m c (y 0) (y 1) := by
  refine (dats m 0 c).arrAt_eq_of_covers 6 _ (by decide +kernel) fun t hf y => ?_
  obtain ⟨r, j, rfl⟩ : ∃ (r : Fin 256) (j : Fin 2048), y = ix2 r j := ⟨y 0, y 1, by blk_ext⟩
  blk_simp [idx t]
  have e0 : (win0_6.blk t).view.emb (ix2 r j) 0 = at_ t r := by
    apply Fin.ext; unfold at_; blk_simp [idx t]; dsimp only; omega
  have e1 : (win0_6.blk t).view.emb (ix2 r j) 1 = j := by
    apply Fin.ext; blk_simp [idx t]
  rw [after0_6, e0, e1]
  frame_out
  refine (pay _ _ _ _ _ _ _).trans ?_
  simp only [blk m c t r j]
  rfl

section Reference
open Cert.Reference14Ideal Cert.Reference14Ideal.Read
variable (x0 x1 x2 : (⟨Cert.Reference14Ideal.S8192x2048, .f32⟩ : BufTy).Contents (Elt Ideal))
  (x3 : (⟨Cert.Reference14Ideal.S8192x26624, .f32⟩ : BufTy).Contents (Elt Ideal)) (s : Fin 8192) (k : Fin 2048)

/-- The column of the joined gates at which branch `b` has its column `k`. -/
def col (b : Fin 3) (k : Fin 2048) : Fin 6144 := ⟨2048 * b.val + k.val, by omega⟩
/-- The gates' column in the whole projection. -/
def pcol (b : Fin 3) (k : Fin 2048) : Fin 26624 := ⟨20480 + 2048 * b.val + k.val, by omega⟩

/-- The reference's logistic function of a gate. -/
theorem ref_logistic (b : Fin 3) : (val_main_v6 (F := Ideal) x3 (ix2 s (col b k)) : EReal) = Ideal.logistic (x3 (ix2 s (pcol b k))) := by
  have e : idx_main_v0 (ix2 s (col b k)) = ix2 s (pcol b k) := by unfold col pcol; blk_ext
  rw [val_main_v6_apply, val_main_v5_apply, val_main_cst_0_apply, val_main_v4_apply, val_main_v3_apply, val_main_cst_apply, val_main_v2_apply,
    val_main_v1_apply, val_main_v0_apply, e, Ideal.ofBits_def, Ideal.ofBits_one_f32]
  rfl
/-- The reference's merge. -/
theorem ref_out : (val_main_v15 (F := Ideal) x0 x1 x2 x3 (ix2 s k) : EReal) =
    merged (x0 (ix2 s k)) (x1 (ix2 s k)) (x2 (ix2 s k)) (x3 (ix2 s (pcol 0 k))) (x3 (ix2 s (pcol 1 k))) (x3 (ix2 s (pcol 2 k))) := by
  have a0 : idx_main_v7 (ix2 s k) = ix2 s (col 0 k) := by unfold col; blk_ext
  have a1 : idx_main_v8 (ix2 s k) = ix2 s (col 1 k) := by unfold col; blk_ext
  have a2 : idx_main_v9 (ix2 s k) = ix2 s (col 2 k) := by unfold col; blk_ext
  rw [val_main_v15_apply, val_main_v14_apply, val_main_v12_apply, val_main_v10_apply, val_main_v11_apply, val_main_v13_apply,
    val_main_v7_apply, val_main_v8_apply, val_main_v9_apply, a0, a1, a2, ref_logistic, ref_logistic, ref_logistic]
  rfl
end Reference

/-- The kernel ends with the reference's merge in its output. -/
theorem algebraic : Cert.algebraic_Kernel14Ideal_Reference14Ideal := by
  intro m g m' g' _ he
  refine ⟨fun c => (dats m 0 c).arrAt 6 cfg0.N, Cert.Kernel14Ideal.Value.run_blocks m g, ?_⟩
  refine (θ_run Cert.Reference14Ideal.defs _ _).mono (fun r h c => ⟨(h c).1.trans ?_, (h c).2⟩) (Cert.Reference14Ideal.Value.run m' g')
  obtain ⟨e0, e1, e2, e3⟩ := he c
  rw [Cert.Reference14Ideal.Read.val_main_v15_eq, e0, e1, e2, e3]
  refine Eq.trans ?_ (arr m c).symm
  funext y
  obtain ⟨s, j, rfl⟩ : ∃ (s : Fin 8192) (j : Fin 2048), y = ix2 s j := ⟨y 0, y 1, by blk_ext⟩
  exact ref_out _ _ _ _ s j

/-- The reference ends with its arguments as they were; it declares no semaphore. -/
theorem frame : Cert.quiescent_Reference14Ideal := fun m g _ =>
  (θ_run Cert.Reference14Ideal.defs _ _).mono (fun r h => ⟨fun c => (h c).2, sem_eq_zero_of_no_sems (by decide) r.2⟩)
    (Cert.Reference14Ideal.Value.run (F := Ideal) m g)

end Cert.MergeForward
end
-- ==== Proof.AdamProjection.lean ====
module
public import proofs.«01_k».proof.Proof.Gen.Kernel20Ideal.Value
public import proofs.«01_k».proof.Proof.Gen.Reference20Ideal.Read
public import proofs.«01_k».proof.Proof.Adam
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! The optimiser's step on the joined projection of the input, tile by tile: the upper half of the gradient is the device's own, the lower
half its neighbour's. -/

@[expose] public section
set_option maxRecDepth 16384
noncomputable section
open Idealize.ShloMosaic Idealize.ShloMosaic.TcCoe Idealize.SL.Sem
namespace Cert.AdamProjection
open Cert.Kernel20Ideal Cert.Kernel20Ideal.Gen

section Tile
variable (i : grid0.Coords) (a b w m v : FVec Ideal S32x6658 .f32) (r : Fin 32) (j : Fin 6658)

/-- A tile's gradient is the first operand's in the upper half of the rows, and the second's in the lower. -/
theorem pay_grad : (k0_pay2 (F := Ideal) i a b (ix2 r j) : EReal) = if (i 0).val = 0 then a (ix2 r j) else b (ix2 r j) := by
  have h : (i 0).val = 0 ∨ (i 0).val = 1 := by have : (i 0).val < 2 := (i 0).isLt; omega
  unfold k0_pay2
  rcases h with h | h <;> rw [h] <;> rfl
/-- The tile's new first moment. -/
theorem pay_mom : (k0_pay3 (F := Ideal) i a b m (ix2 r j) : EReal) = Cert.Adam.first (k0_pay2 (F := Ideal) i a b (ix2 r j)) (m (ix2 r j)) := rfl
/-- The tile's new second moment. -/
theorem pay_sec : (k0_pay4 (F := Ideal) i a b v (ix2 r j) : EReal) = Cert.Adam.second (k0_pay2 (F := Ideal) i a b (ix2 r j)) (v (ix2 r j)) := rfl
/-- The tile's change of the weight. -/
theorem pay_del : (k0_pay1 (F := Ideal) (k0_pay5 i a b m v) w k0_pay6 (ix2 r j) : EReal) =
    Cert.Adam.delta (k0_pay2 (F := Ideal) i a b (ix2 r j)) (w (ix2 r j)) (m (ix2 r j)) (v (ix2 r j)) := rfl
end Tile

variable (m : (ℓ : Loc nD τ sig) → Buf (Elt Ideal) ℓ)

/-- The block each window takes at a point, and the half the point is in. -/
theorem idx : ∀ t : Fin cfg0.N, win0_0.index t = ![t.val % 32, 0] ∧ win0_1.index t = ![t.val % 32, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] ∧ win0_8.index t = ![t.val, 0] := (by decide +kernel : ∀ t : Fin grid0.N, _)
theorem half : ∀ t : Fin cfg0.N, (grid0.coords t 0).val = t.val / 32 := (by decide +kernel : ∀ t : Fin grid0.N, _)

/-- The gradient: the device's own half over its neighbour's. -/
def G (c : Dev nD) : Fin 2048 → Fin 6658 → EReal := Cert.Adam.halves (n := 1024) rfl (fun s k => m ((c : Thread nD τ).loc main_arg0) (ix2 s k))
  (fun s k => m ((c : Thread nD τ).loc main_arg1) (ix2 s k))
/-- The weight. -/
def W (c : Dev nD) : Fin 2048 → Fin 6658 → EReal := fun s k => m ((c : Thread nD τ).loc main_arg2) (ix2 s k)
/-- Its first moment. -/
def M (c : Dev nD) : Fin 2048 → Fin 6658 → EReal := fun s k => m ((c : Thread nD τ).loc main_arg3) (ix2 s k)
/-- Its second one. -/
def V2 (c : Dev nD) : Fin 2048 → Fin 6658 → EReal := fun s k => m ((c : Thread nD τ).loc main_arg4) (ix2 s k)

/-- The row of the whole array a point's row is. -/
def at_ (t : Fin cfg0.N) (r : Fin 32) : Fin 2048 := ⟨32 * t.val + r.val, by have : t.val < 64 := t.isLt; omega⟩

/-- The tile's elements, read in the whole arrays. -/
theorem blk (c : Dev nD) (t : Fin cfg0.N) (r : Fin 32) (k : Fin 6658) :
    (iblk m c 2 t : FVec Ideal S32x6658 .f32) (ix2 r k) = W m c (at_ t r) k ∧ (iblk m c 3 t : FVec Ideal S32x6658 .f32) (ix2 r k) = M m c (at_ t r) k ∧
    (iblk m c 4 t : FVec Ideal S32x6658 .f32) (ix2 r k) = V2 m c (at_ t r) k := by
  unfold W M V2 at_
  refine ⟨?_, ?_, ?_⟩
  all_goals blk_point [iblk, V, idx t]
/-- A tile of a half, read in the half. -/
theorem blk_half (c : Dev nD) (t : Fin cfg0.N) (r : Fin 32) (k : Fin 6658) (s : Fin 1024) (hs : s.val = 32 * (t.val % 32) + r.val) :
    (iblk m c 0 t : FVec Ideal S32x6658 .f32) (ix2 r k) = m ((c : Thread nD τ).loc main_arg0) (ix2 s k) ∧
    (iblk m c 1 t : FVec Ideal S32x6658 .f32) (ix2 r k) = m ((c : Thread nD τ).loc main_arg1) (ix2 s k) := by
  have hb : 32 * (t.val % 32) + r.val < 1024 := by omega
  obtain rfl : s = ⟨32 * (t.val % 32) + r.val, hb⟩ := Fin.ext hs
  refine ⟨?_, ?_⟩
  all_goals blk_point [iblk, V, idx t]

/-- The gradient a point takes is the tile of the whole gradient. -/
theorem grad (c : Dev nD) (t : Fin cfg0.N) (r : Fin 32) (k : Fin 6658) :
    (k0_pay2 (F := Ideal) (grid0.coords t) (iblk m c 0 t) (iblk m c 1 t) (ix2 r k) : EReal) = G m c (at_ t r) k := by
  have ht : t.val < 64 := t.isLt
  rw [pay_grad, half]
  unfold G Cert.Adam.halves
  by_cases h : t.val / 32 = 0
  · rw [if_pos h, dif_pos (by unfold at_; dsimp only; omega)]
    exact (blk_half m c t r k _ (by unfold at_; dsimp only; omega)).1
  · rw [if_neg h, dif_neg (by unfold at_; dsimp only; omega)]
    exact (blk_half m c t r k _ (by unfold at_; dsimp only; omega)).2

set_option maxHeartbeats 2000000 in
/-- The four results, in closed form. -/
theorem arr (c : Dev nD) :
    ((dats m 0 c).arrAt 5 cfg0.N = fun y => G m c (y 0) (y 1)) ∧
    ((dats m 0 c).arrAt 6 cfg0.N = fun y => Cert.Adam.delta (G m c (y 0) (y 1)) (W m c (y 0) (y 1)) (M m c (y 0) (y 1)) (V2 m c (y 0) (y 1))) ∧
    ((dats m 0 c).arrAt 7 cfg0.N = fun y => Cert.Adam.first (G m c (y 0) (y 1)) (M m c (y 0) (y 1))) ∧
    ((dats m 0 c).arrAt 8 cfg0.N = fun y => Cert.Adam.second (G m c (y 0) (y 1)) (V2 m c (y 0) (y 1))) := by
  refine ⟨(dats m 0 c).arrAt_eq_of_covers 5 _ (by decide +kernel) fun t hf y => ?_, (dats m 0 c).arrAt_eq_of_covers 6 _ (by decide +kernel) fun t hf y => ?_,
    (dats m 0 c).arrAt_eq_of_covers 7 _ (by decide +kernel) fun t hf y => ?_, (dats m 0 c).arrAt_eq_of_covers 8 _ (by decide +kernel) fun t hf y => ?_⟩
  all_goals obtain ⟨r, j, rfl⟩ : ∃ (r : Fin 32) (j : Fin 6658), y = ix2 r j := ⟨y 0, y 1, by blk_ext⟩
  all_goals blk_simp [idx t]
  on_goal 1 => rw [after0_5]
  on_goal 2 => rw [after0_6]
  on_goal 3 => rw [after0_7]
  on_goal 4 => rw [after0_8]
  all_goals frame_out
  on_goal 2 => refine (pay_del _ _ _ _ _ _ _ _).trans ?_
  on_goal 3 => refine (pay_mom _ _ _ _ _ _).trans ?_
  on_goal 4 => refine (pay_sec _ _ _ _ _ _).trans ?_
  all_goals simp only [grad m c t r j, blk m c t r j]
  all_goals congr 1 <;> congr 1
  all_goals apply Fin.ext
  all_goals try unfold at_
  all_goals blk_simp [idx t]
  all_goals try dsimp only
  all_goals omega

section Reference
open Cert.Reference20Ideal.Read
variable (x0 x1 : (⟨Cert.Reference20Ideal.S1024x6658, .f32⟩ : BufTy).Contents (Elt Ideal))
  (x2 x3 x4 : (⟨Cert.Reference20Ideal.S2048x6658, .f32⟩ : BufTy).Contents (Elt Ideal)) (s : Fin 2048) (j : Fin 6658)

/-- The two halves, one under the other. -/
def both : EReal := Cert.Adam.halves (n := 1024) (N := 2048) rfl (fun s k => x0 (ix2 s k)) (fun s k => x1 (ix2 s k)) s j

/-- The reference's gradient. -/
theorem ref_grad : (val_main_v0 (F := Ideal) x0 x1 (ix2 s j) : EReal) = both x0 x1 s j :=
  Cert.Adam.concat_apply rfl x0 x1 _ s j
/-- Its new moments and its change of the weight, from the gradient. -/
theorem ref_mom : (val_main_v5 (F := Ideal) x0 x1 x3 (ix2 s j) : EReal) = Cert.Adam.first (both x0 x1 s j) (x3 (ix2 s j)) :=
  congrArg (Cert.Adam.first · (x3 (ix2 s j))) (ref_grad x0 x1 s j)
theorem ref_sec : (val_main_v11 (F := Ideal) x0 x1 x4 (ix2 s j) : EReal) = Cert.Adam.second (both x0 x1 s j) (x4 (ix2 s j)) :=
  congrArg (Cert.Adam.second · (x4 (ix2 s j))) (ref_grad x0 x1 s j)
theorem ref_del : (val_main_v24 (F := Ideal) x0 x1 x2 x3 x4 (ix2 s j) : EReal) =
    Cert.Adam.delta (both x0 x1 s j) (x2 (ix2 s j)) (x3 (ix2 s j)) (x4 (ix2 s j)) :=
  congrArg (Cert.Adam.delta · (x2 (ix2 s j)) (x3 (ix2 s j)) (x4 (ix2 s j))) (ref_grad x0 x1 s j)
end Reference

/-- The kernel ends with the reference's gradient, change and moments in its outputs. -/
theorem algebraic : Cert.algebraic_Kernel20Ideal_Reference20Ideal := by
  intro m g m' g' _ he
  refine ⟨fun c => (dats m 0 c).arrAt 5 cfg0.N, fun c => (dats m 0 c).arrAt 6 cfg0.N, fun c => (dats m 0 c).arrAt 7 cfg0.N,
    fun c => (dats m 0 c).arrAt 8 cfg0.N, Cert.Kernel20Ideal.Value.run_blocks m g, ?_⟩
  refine (θ_run Cert.Reference20Ideal.defs _ _).mono (fun r h c => ?_) (Cert.Reference20Ideal.Value.run m' g')
  obtain ⟨h0, h1, h2, h3, ha⟩ := h c
  obtain ⟨e0, e1, e2, e3, e4⟩ := he c
  have pair : ∀ y : S2048x6658.Idx, y = ix2 (y 0 : Fin 2048) (y 1 : Fin 6658) := fun y => by blk_ext
  obtain ⟨a5, a6, a7, a8⟩ := arr m c
  refine ⟨h0.trans ?_, h1.trans ?_, h2.trans ?_, h3.trans ?_, ha⟩
  · rw [Cert.Reference20Ideal.Read.val_main_v0_eq, e0, e1]
    refine Eq.trans ?_ a5.symm
    funext y; rw [pair y]
    exact ref_grad _ _ _ _
  · rw [Cert.Reference20Ideal.Read.val_main_v24_eq, e0, e1, e2, e3, e4]
    refine Eq.trans ?_ a6.symm
    funext y; rw [pair y]
    exact ref_del _ _ _ _ _ _ _
  · rw [Cert.Reference20Ideal.Read.val_main_v5_eq, e0, e1, e3]
    refine Eq.trans ?_ a7.symm
    funext y; rw [pair y]
    exact ref_mom _ _ _ _ _
  · rw [Cert.Reference20Ideal.Read.val_main_v11_eq, e0, e1, e4]
    refine Eq.trans ?_ a8.symm
    funext y; rw [pair y]
    exact ref_sec _ _ _ _ _

/-- The reference ends with its arguments as they were; it declares no semaphore. -/
theorem frame : Cert.quiescent_Reference20Ideal := fun m g _ =>
  (θ_run Cert.Reference20Ideal.defs _ _).mono (fun r h => ⟨fun c => (h c).2.2.2.2, sem_eq_zero_of_no_sems (by decide) r.2⟩)
    (Cert.Reference20Ideal.Value.run (F := Ideal) m g)

end Cert.AdamProjection
end
-- ==== Proof.AdamOut.lean ====
module
public import proofs.«01_k».proof.Proof.Gen.Kernel21Ideal.Value
public import proofs.«01_k».proof.Proof.Gen.Reference21Ideal.Read
public import proofs.«01_k».proof.Proof.Adam
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! The optimiser's step on a branch's projection out, tile by tile: the upper half of the gradient is the device's own, the lower
half its neighbour's. -/

@[expose] public section
set_option maxRecDepth 16384
noncomputable section
open Idealize.ShloMosaic Idealize.ShloMosaic.TcCoe Idealize.SL.Sem
namespace Cert.AdamOut
open Cert.Kernel21Ideal Cert.Kernel21Ideal.Gen

section Tile
variable (i : grid0.Coords) (a b w m v : FVec Ideal S128x2048 .f32) (r : Fin 128) (j : Fin 2048)

/-- A tile's gradient is the first operand's in the upper half of the rows, and the second's in the lower. -/
theorem pay_grad : (k0_pay2 (F := Ideal) i a b (ix2 r j) : EReal) = if (i 0).val = 0 then a (ix2 r j) else b (ix2 r j) := by
  have h : (i 0).val = 0 ∨ (i 0).val = 1 := by have : (i 0).val < 2 := (i 0).isLt; omega
  unfold k0_pay2
  rcases h with h | h <;> rw [h] <;> rfl
/-- The tile's new first moment. -/
theorem pay_mom : (k0_pay3 (F := Ideal) i a b m (ix2 r j) : EReal) = Cert.Adam.first (k0_pay2 (F := Ideal) i a b (ix2 r j)) (m (ix2 r j)) := rfl
/-- The tile's new second moment. -/
theorem pay_sec : (k0_pay4 (F := Ideal) i a b v (ix2 r j) : EReal) = Cert.Adam.second (k0_pay2 (F := Ideal) i a b (ix2 r j)) (v (ix2 r j)) := rfl
/-- The tile's change of the weight. -/
theorem pay_del : (k0_pay1 (F := Ideal) (k0_pay5 i a b m v) w k0_pay6 (ix2 r j) : EReal) =
    Cert.Adam.delta (k0_pay2 (F := Ideal) i a b (ix2 r j)) (w (ix2 r j)) (m (ix2 r j)) (v (ix2 r j)) := rfl
end Tile

variable (m : (ℓ : Loc nD τ sig) → Buf (Elt Ideal) ℓ)

/-- The block each window takes at a point, and the half the point is in. -/
theorem idx : ∀ t : Fin cfg0.N, win0_0.index t = ![t.val % 2, 0] ∧ win0_1.index t = ![t.val % 2, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] ∧ win0_8.index t = ![t.val, 0] := (by decide +kernel : ∀ t : Fin grid0.N, _)
theorem half : ∀ t : Fin cfg0.N, (grid0.coords t 0).val = t.val / 2 := (by decide +kernel : ∀ t : Fin grid0.N, _)

/-- The gradient: the device's own half over its neighbour's. -/
def G (c : Dev nD) : Fin 512 → Fin 2048 → EReal := Cert.Adam.halves (n := 256) rfl (fun s k => m ((c : Thread nD τ).loc main_arg0) (ix2 s k))
  (fun s k => m ((c : Thread nD τ).loc main_arg1) (ix2 s k))
/-- The weight. -/
def W (c : Dev nD) : Fin 512 → Fin 2048 → EReal := fun s k => m ((c : Thread nD τ).loc main_arg2) (ix2 s k)
/-- Its first moment. -/
def M (c : Dev nD) : Fin 512 → Fin 2048 → EReal := fun s k => m ((c : Thread nD τ).loc main_arg3) (ix2 s k)
/-- Its second one. -/
def V2 (c : Dev nD) : Fin 512 → Fin 2048 → EReal := fun s k => m ((c : Thread nD τ).loc main_arg4) (ix2 s k)

/-- The row of the whole array a point's row is. -/
def at_ (t : Fin cfg0.N) (r : Fin 128) : Fin 512 := ⟨128 * t.val + r.val, by have : t.val < 4 := t.isLt; omega⟩

/-- The tile's elements, read in the whole arrays. -/
theorem blk (c : Dev nD) (t : Fin cfg0.N) (r : Fin 128) (k : Fin 2048) :
    (iblk m c 2 t : FVec Ideal S128x2048 .f32) (ix2 r k) = W m c (at_ t r) k ∧ (iblk m c 3 t : FVec Ideal S128x2048 .f32) (ix2 r k) = M m c (at_ t r) k ∧
    (iblk m c 4 t : FVec Ideal S128x2048 .f32) (ix2 r k) = V2 m c (at_ t r) k := by
  unfold W M V2 at_
  refine ⟨?_, ?_, ?_⟩
  all_goals blk_point [iblk, V, idx t]
/-- A tile of a half, read in the half. -/
theorem blk_half (c : Dev nD) (t : Fin cfg0.N) (r : Fin 128) (k : Fin 2048) (s : Fin 256) (hs : s.val = 128 * (t.val % 2) + r.val) :
    (iblk m c 0 t : FVec Ideal S128x2048 .f32) (ix2 r k) = m ((c : Thread nD τ).loc main_arg0) (ix2 s k) ∧
    (iblk m c 1 t : FVec Ideal S128x2048 .f32) (ix2 r k) = m ((c : Thread nD τ).loc main_arg1) (ix2 s k) := by
  have hb : 128 * (t.val % 2) + r.val < 256 := by omega
  obtain rfl : s = ⟨128 * (t.val % 2) + r.val, hb⟩ := Fin.ext hs
  refine ⟨?_, ?_⟩
  all_goals blk_point [iblk, V, idx t]

/-- The gradient a point takes is the tile of the whole gradient. -/
theorem grad (c : Dev nD) (t : Fin cfg0.N) (r : Fin 128) (k : Fin 2048) :
    (k0_pay2 (F := Ideal) (grid0.coords t) (iblk m c 0 t) (iblk m c 1 t) (ix2 r k) : EReal) = G m c (at_ t r) k := by
  have ht : t.val < 4 := t.isLt
  rw [pay_grad, half]
  unfold G Cert.Adam.halves
  by_cases h : t.val / 2 = 0
  · rw [if_pos h, dif_pos (by unfold at_; dsimp only; omega)]
    exact (blk_half m c t r k _ (by unfold at_; dsimp only; omega)).1
  · rw [if_neg h, dif_neg (by unfold at_; dsimp only; omega)]
    exact (blk_half m c t r k _ (by unfold at_; dsimp only; omega)).2

set_option maxHeartbeats 2000000 in
/-- The four results, in closed form. -/
theorem arr (c : Dev nD) :
    ((dats m 0 c).arrAt 5 cfg0.N = fun y => G m c (y 0) (y 1)) ∧
    ((dats m 0 c).arrAt 6 cfg0.N = fun y => Cert.Adam.delta (G m c (y 0) (y 1)) (W m c (y 0) (y 1)) (M m c (y 0) (y 1)) (V2 m c (y 0) (y 1))) ∧
    ((dats m 0 c).arrAt 7 cfg0.N = fun y => Cert.Adam.first (G m c (y 0) (y 1)) (M m c (y 0) (y 1))) ∧
    ((dats m 0 c).arrAt 8 cfg0.N = fun y => Cert.Adam.second (G m c (y 0) (y 1)) (V2 m c (y 0) (y 1))) := by
  refine ⟨(dats m 0 c).arrAt_eq_of_covers 5 _ (by decide +kernel) fun t hf y => ?_, (dats m 0 c).arrAt_eq_of_covers 6 _ (by decide +kernel) fun t hf y => ?_,
    (dats m 0 c).arrAt_eq_of_covers 7 _ (by decide +kernel) fun t hf y => ?_, (dats m 0 c).arrAt_eq_of_covers 8 _ (by decide +kernel) fun t hf y => ?_⟩
  all_goals obtain ⟨r, j, rfl⟩ : ∃ (r : Fin 128) (j : Fin 2048), y = ix2 r j := ⟨y 0, y 1, by blk_ext⟩
  all_goals blk_simp [idx t]
  on_goal 1 => rw [after0_5]
  on_goal 2 => rw [after0_6]
  on_goal 3 => rw [after0_7]
  on_goal 4 => rw [after0_8]
  all_goals frame_out
  on_goal 2 => refine (pay_del _ _ _ _ _ _ _ _).trans ?_
  on_goal 3 => refine (pay_mom _ _ _ _ _ _).trans ?_
  on_goal 4 => refine (pay_sec _ _ _ _ _ _).trans ?_
  all_goals simp only [grad m c t r j, blk m c t r j]
  all_goals congr 1 <;> congr 1
  all_goals apply Fin.ext
  all_goals try unfold at_
  all_goals blk_simp [idx t]
  all_goals try dsimp only
  all_goals omega

section Reference
open Cert.Reference21Ideal.Read
variable (x0 x1 : (⟨Cert.Reference21Ideal.S256x2048, .f32⟩ : BufTy).Contents (Elt Ideal))
  (x2 x3 x4 : (⟨Cert.Reference21Ideal.S512x2048, .f32⟩ : BufTy).Contents (Elt Ideal)) (s : Fin 512) (j : Fin 2048)

/-- The two halves, one under the other. -/
def both : EReal := Cert.Adam.halves (n := 256) (N := 512) rfl (fun s k => x0 (ix2 s k)) (fun s k => x1 (ix2 s k)) s j

/-- The reference's gradient. -/
theorem ref_grad : (val_main_v0 (F := Ideal) x0 x1 (ix2 s j) : EReal) = both x0 x1 s j :=
  Cert.Adam.concat_apply rfl x0 x1 _ s j
/-- Its new moments and its change of the weight, from the gradient. -/
theorem ref_mom : (val_main_v5 (F := Ideal) x0 x1 x3 (ix2 s j) : EReal) = Cert.Adam.first (both x0 x1 s j) (x3 (ix2 s j)) :=
  congrArg (Cert.Adam.first · (x3 (ix2 s j))) (ref_grad x0 x1 s j)
theorem ref_sec : (val_main_v11 (F := Ideal) x0 x1 x4 (ix2 s j) : EReal) = Cert.Adam.second (both x0 x1 s j) (x4 (ix2 s j)) :=
  congrArg (Cert.Adam.second · (x4 (ix2 s j))) (ref_grad x0 x1 s j)
theorem ref_del : (val_main_v24 (F := Ideal) x0 x1 x2 x3 x4 (ix2 s j) : EReal) =
    Cert.Adam.delta (both x0 x1 s j) (x2 (ix2 s j)) (x3 (ix2 s j)) (x4 (ix2 s j)) :=
  congrArg (Cert.Adam.delta · (x2 (ix2 s j)) (x3 (ix2 s j)) (x4 (ix2 s j))) (ref_grad x0 x1 s j)
end Reference

/-- The kernel ends with the reference's gradient, change and moments in its outputs. -/
theorem algebraic : Cert.algebraic_Kernel21Ideal_Reference21Ideal := by
  intro m g m' g' _ he
  refine ⟨fun c => (dats m 0 c).arrAt 5 cfg0.N, fun c => (dats m 0 c).arrAt 6 cfg0.N, fun c => (dats m 0 c).arrAt 7 cfg0.N,
    fun c => (dats m 0 c).arrAt 8 cfg0.N, Cert.Kernel21Ideal.Value.run_blocks m g, ?_⟩
  refine (θ_run Cert.Reference21Ideal.defs _ _).mono (fun r h c => ?_) (Cert.Reference21Ideal.Value.run m' g')
  obtain ⟨h0, h1, h2, h3, ha⟩ := h c
  obtain ⟨e0, e1, e2, e3, e4⟩ := he c
  have pair : ∀ y : S512x2048.Idx, y = ix2 (y 0 : Fin 512) (y 1 : Fin 2048) := fun y => by blk_ext
  obtain ⟨a5, a6, a7, a8⟩ := arr m c
  refine ⟨h0.trans ?_, h1.trans ?_, h2.trans ?_, h3.trans ?_, ha⟩
  · rw [Cert.Reference21Ideal.Read.val_main_v0_eq, e0, e1]
    refine Eq.trans ?_ a5.symm
    funext y; rw [pair y]
    exact ref_grad _ _ _ _
  · rw [Cert.Reference21Ideal.Read.val_main_v24_eq, e0, e1, e2, e3, e4]
    refine Eq.trans ?_ a6.symm
    funext y; rw [pair y]
    exact ref_del _ _ _ _ _ _ _
  · rw [Cert.Reference21Ideal.Read.val_main_v5_eq, e0, e1, e3]
    refine Eq.trans ?_ a7.symm
    funext y; rw [pair y]
    exact ref_mom _ _ _ _ _
  · rw [Cert.Reference21Ideal.Read.val_main_v11_eq, e0, e1, e4]
    refine Eq.trans ?_ a8.symm
    funext y; rw [pair y]
    exact ref_sec _ _ _ _ _

/-- The reference ends with its arguments as they were; it declares no semaphore. -/
theorem frame : Cert.quiescent_Reference21Ideal := fun m g _ =>
  (θ_run Cert.Reference21Ideal.defs _ _).mono (fun r h => ⟨fun c => (h c).2.2.2.2, sem_eq_zero_of_no_sems (by decide) r.2⟩)
    (Cert.Reference21Ideal.Value.run (F := Ideal) m g)

end Cert.AdamOut
end
-- ==== Proof.AdamMemory.lean ====
module
public import proofs.«01_k».proof.Proof.Gen.Kernel22Ideal.Value
public import proofs.«01_k».proof.Proof.Gen.Reference22Ideal.Read
public import proofs.«01_k».proof.Proof.Adam
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! The optimiser's step on the keys' and values' projection of the memory, tile by tile: the upper half of the gradient is the device's own, the lower
half its neighbour's. -/

@[expose] public section
set_option maxRecDepth 16384
noncomputable section
open Idealize.ShloMosaic Idealize.ShloMosaic.TcCoe Idealize.SL.Sem
namespace Cert.AdamMemory
open Cert.Kernel22Ideal Cert.Kernel22Ideal.Gen

section Tile
variable (i : grid0.Coords) (a b w m v : FVec Ideal S256x1024 .f32) (r : Fin 256) (j : Fin 1024)

/-- A tile's gradient is the first operand's in the upper half of the rows, and the second's in the lower. -/
theorem pay_grad : (k0_pay2 (F := Ideal) i a b (ix2 r j) : EReal) = if (i 0).val = 0 then a (ix2 r j) else b (ix2 r j) := by
  have h : (i 0).val = 0 ∨ (i 0).val = 1 := by have : (i 0).val < 2 := (i 0).isLt; omega
  unfold k0_pay2
  rcases h with h | h <;> rw [h] <;> rfl
/-- The tile's new first moment. -/
theorem pay_mom : (k0_pay3 (F := Ideal) i a b m (ix2 r j) : EReal) = Cert.Adam.first (k0_pay2 (F := Ideal) i a b (ix2 r j)) (m (ix2 r j)) := rfl
/-- The tile's new second moment. -/
theorem pay_sec : (k0_pay4 (F := Ideal) i a b v (ix2 r j) : EReal) = Cert.Adam.second (k0_pay2 (F := Ideal) i a b (ix2 r j)) (v (ix2 r j)) := rfl
/-- The tile's change of the weight. -/
theorem pay_del : (k0_pay1 (F := Ideal) (k0_pay5 i a b m v) w k0_pay6 (ix2 r j) : EReal) =
    Cert.Adam.delta (k0_pay2 (F := Ideal) i a b (ix2 r j)) (w (ix2 r j)) (m (ix2 r j)) (v (ix2 r j)) := rfl
end Tile

variable (m : (ℓ : Loc nD τ sig) → Buf (Elt Ideal) ℓ)

/-- The block each window takes at a point, and the half the point is in. -/
theorem idx : ∀ t : Fin cfg0.N, win0_0.index t = ![t.val % 4, 0] ∧ win0_1.index t = ![t.val % 4, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] ∧ win0_8.index t = ![t.val, 0] := (by decide +kernel : ∀ t : Fin grid0.N, _)
theorem half : ∀ t : Fin cfg0.N, (grid0.coords t 0).val = t.val / 4 := (by decide +kernel : ∀ t : Fin grid0.N, _)

/-- The gradient: the device's own half over its neighbour's. -/
def G (c : Dev nD) : Fin 2048 → Fin 1024 → EReal := Cert.Adam.halves (n := 1024) rfl (fun s k => m ((c : Thread nD τ).loc main_arg0) (ix2 s k))
  (fun s k => m ((c : Thread nD τ).loc main_arg1) (ix2 s k))
/-- The weight. -/
def W (c : Dev nD) : Fin 2048 → Fin 1024 → EReal := fun s k => m ((c : Thread nD τ).loc main_arg2) (ix2 s k)
/-- Its first moment. -/
def M (c : Dev nD) : Fin 2048 → Fin 1024 → EReal := fun s k => m ((c : Thread nD τ).loc main_arg3) (ix2 s k)
/-- Its second one. -/
def V2 (c : Dev nD) : Fin 2048 → Fin 1024 → EReal := fun s k => m ((c : Thread nD τ).loc main_arg4) (ix2 s k)

/-- The row of the whole array a point's row is. -/
def at_ (t : Fin cfg0.N) (r : Fin 256) : Fin 2048 := ⟨256 * t.val + r.val, by have : t.val < 8 := t.isLt; omega⟩

/-- The tile's elements, read in the whole arrays. -/
theorem blk (c : Dev nD) (t : Fin cfg0.N) (r : Fin 256) (k : Fin 1024) :
    (iblk m c 2 t : FVec Ideal S256x1024 .f32) (ix2 r k) = W m c (at_ t r) k ∧ (iblk m c 3 t : FVec Ideal S256x1024 .f32) (ix2 r k) = M m c (at_ t r) k ∧
    (iblk m c 4 t : FVec Ideal S256x1024 .f32) (ix2 r k) = V2 m c (at_ t r) k := by
  unfold W M V2 at_
  refine ⟨?_, ?_, ?_⟩
  all_goals blk_point [iblk, V, idx t]
/-- A tile of a half, read in the half. -/
theorem blk_half (c : Dev nD) (t : Fin cfg0.N) (r : Fin 256) (k : Fin 1024) (s : Fin 1024) (hs : s.val = 256 * (t.val % 4) + r.val) :
    (iblk m c 0 t : FVec Ideal S256x1024 .f32) (ix2 r k) = m ((c : Thread nD τ).loc main_arg0) (ix2 s k) ∧
    (iblk m c 1 t : FVec Ideal S256x1024 .f32) (ix2 r k) = m ((c : Thread nD τ).loc main_arg1) (ix2 s k) := by
  have hb : 256 * (t.val % 4) + r.val < 1024 := by omega
  obtain rfl : s = ⟨256 * (t.val % 4) + r.val, hb⟩ := Fin.ext hs
  refine ⟨?_, ?_⟩
  all_goals blk_point [iblk, V, idx t]

/-- The gradient a point takes is the tile of the whole gradient. -/
theorem grad (c : Dev nD) (t : Fin cfg0.N) (r : Fin 256) (k : Fin 1024) :
    (k0_pay2 (F := Ideal) (grid0.coords t) (iblk m c 0 t) (iblk m c 1 t) (ix2 r k) : EReal) = G m c (at_ t r) k := by
  have ht : t.val < 8 := t.isLt
  rw [pay_grad, half]
  unfold G Cert.Adam.halves
  by_cases h : t.val / 4 = 0
  · rw [if_pos h, dif_pos (by unfold at_; dsimp only; omega)]
    exact (blk_half m c t r k _ (by unfold at_; dsimp only; omega)).1
  · rw [if_neg h, dif_neg (by unfold at_; dsimp only; omega)]
    exact (blk_half m c t r k _ (by unfold at_; dsimp only; omega)).2

set_option maxHeartbeats 2000000 in
/-- The four results, in closed form. -/
theorem arr (c : Dev nD) :
    ((dats m 0 c).arrAt 5 cfg0.N = fun y => G m c (y 0) (y 1)) ∧
    ((dats m 0 c).arrAt 6 cfg0.N = fun y => Cert.Adam.delta (G m c (y 0) (y 1)) (W m c (y 0) (y 1)) (M m c (y 0) (y 1)) (V2 m c (y 0) (y 1))) ∧
    ((dats m 0 c).arrAt 7 cfg0.N = fun y => Cert.Adam.first (G m c (y 0) (y 1)) (M m c (y 0) (y 1))) ∧
    ((dats m 0 c).arrAt 8 cfg0.N = fun y => Cert.Adam.second (G m c (y 0) (y 1)) (V2 m c (y 0) (y 1))) := by
  refine ⟨(dats m 0 c).arrAt_eq_of_covers 5 _ (by decide +kernel) fun t hf y => ?_, (dats m 0 c).arrAt_eq_of_covers 6 _ (by decide +kernel) fun t hf y => ?_,
    (dats m 0 c).arrAt_eq_of_covers 7 _ (by decide +kernel) fun t hf y => ?_, (dats m 0 c).arrAt_eq_of_covers 8 _ (by decide +kernel) fun t hf y => ?_⟩
  all_goals obtain ⟨r, j, rfl⟩ : ∃ (r : Fin 256) (j : Fin 1024), y = ix2 r j := ⟨y 0, y 1, by blk_ext⟩
  all_goals blk_simp [idx t]
  on_goal 1 => rw [after0_5]
  on_goal 2 => rw [after0_6]
  on_goal 3 => rw [after0_7]
  on_goal 4 => rw [after0_8]
  all_goals frame_out
  on_goal 2 => refine (pay_del _ _ _ _ _ _ _ _).trans ?_
  on_goal 3 => refine (pay_mom _ _ _ _ _ _).trans ?_
  on_goal 4 => refine (pay_sec _ _ _ _ _ _).trans ?_
  all_goals simp only [grad m c t r j, blk m c t r j]
  all_goals congr 1 <;> congr 1
  all_goals apply Fin.ext
  all_goals try unfold at_
  all_goals blk_simp [idx t]
  all_goals try dsimp only
  all_goals omega

section Reference
open Cert.Reference22Ideal.Read
variable (x0 x1 : (⟨Cert.Reference22Ideal.S1024x1024, .f32⟩ : BufTy).Contents (Elt Ideal))
  (x2 x3 x4 : (⟨Cert.Reference22Ideal.S2048x1024, .f32⟩ : BufTy).Contents (Elt Ideal)) (s : Fin 2048) (j : Fin 1024)

/-- The two halves, one under the other. -/
def both : EReal := Cert.Adam.halves (n := 1024) (N := 2048) rfl (fun s k => x0 (ix2 s k)) (fun s k => x1 (ix2 s k)) s j

/-- The reference's gradient. -/
theorem ref_grad : (val_main_v0 (F := Ideal) x0 x1 (ix2 s j) : EReal) = both x0 x1 s j :=
  Cert.Adam.concat_apply rfl x0 x1 _ s j
/-- Its new moments and its change of the weight, from the gradient. -/
theorem ref_mom : (val_main_v5 (F := Ideal) x0 x1 x3 (ix2 s j) : EReal) = Cert.Adam.first (both x0 x1 s j) (x3 (ix2 s j)) :=
  congrArg (Cert.Adam.first · (x3 (ix2 s j))) (ref_grad x0 x1 s j)
theorem ref_sec : (val_main_v11 (F := Ideal) x0 x1 x4 (ix2 s j) : EReal) = Cert.Adam.second (both x0 x1 s j) (x4 (ix2 s j)) :=
  congrArg (Cert.Adam.second · (x4 (ix2 s j))) (ref_grad x0 x1 s j)
theorem ref_del : (val_main_v24 (F := Ideal) x0 x1 x2 x3 x4 (ix2 s j) : EReal) =
    Cert.Adam.delta (both x0 x1 s j) (x2 (ix2 s j)) (x3 (ix2 s j)) (x4 (ix2 s j)) :=
  congrArg (Cert.Adam.delta · (x2 (ix2 s j)) (x3 (ix2 s j)) (x4 (ix2 s j))) (ref_grad x0 x1 s j)
end Reference

/-- The kernel ends with the reference's gradient, change and moments in its outputs. -/
theorem algebraic : Cert.algebraic_Kernel22Ideal_Reference22Ideal := by
  intro m g m' g' _ he
  refine ⟨fun c => (dats m 0 c).arrAt 5 cfg0.N, fun c => (dats m 0 c).arrAt 6 cfg0.N, fun c => (dats m 0 c).arrAt 7 cfg0.N,
    fun c => (dats m 0 c).arrAt 8 cfg0.N, Cert.Kernel22Ideal.Value.run_blocks m g, ?_⟩
  refine (θ_run Cert.Reference22Ideal.defs _ _).mono (fun r h c => ?_) (Cert.Reference22Ideal.Value.run m' g')
  obtain ⟨h0, h1, h2, h3, ha⟩ := h c
  obtain ⟨e0, e1, e2, e3, e4⟩ := he c
  have pair : ∀ y : S2048x1024.Idx, y = ix2 (y 0 : Fin 2048) (y 1 : Fin 1024) := fun y => by blk_ext
  obtain ⟨a5, a6, a7, a8⟩ := arr m c
  refine ⟨h0.trans ?_, h1.trans ?_, h2.trans ?_, h3.trans ?_, ha⟩
  · rw [Cert.Reference22Ideal.Read.val_main_v0_eq, e0, e1]
    refine Eq.trans ?_ a5.symm
    funext y; rw [pair y]
    exact ref_grad _ _ _ _
  · rw [Cert.Reference22Ideal.Read.val_main_v24_eq, e0, e1, e2, e3, e4]
    refine Eq.trans ?_ a6.symm
    funext y; rw [pair y]
    exact ref_del _ _ _ _ _ _ _
  · rw [Cert.Reference22Ideal.Read.val_main_v5_eq, e0, e1, e3]
    refine Eq.trans ?_ a7.symm
    funext y; rw [pair y]
    exact ref_mom _ _ _ _ _
  · rw [Cert.Reference22Ideal.Read.val_main_v11_eq, e0, e1, e4]
    refine Eq.trans ?_ a8.symm
    funext y; rw [pair y]
    exact ref_sec _ _ _ _ _

/-- The reference ends with its arguments as they were; it declares no semaphore. -/
theorem frame : Cert.quiescent_Reference22Ideal := fun m g _ =>
  (θ_run Cert.Reference22Ideal.defs _ _).mono (fun r h => ⟨fun c => (h c).2.2.2.2, sem_eq_zero_of_no_sems (by decide) r.2⟩)
    (Cert.Reference22Ideal.Value.run (F := Ideal) m g)

end Cert.AdamMemory
end
-- ==== Proof.Attention.lean ====
module
public import proofs.«01_k».proof.Proof.Gen.Kernel23Ideal.Value
public import proofs.«01_k».proof.Proof.Gen.Reference23Ideal.Read
public import proofs.«01_k».proof.Proof.Pay
public import proofs.«01_k».proof.Proof.Ref
public import proofs.«01_k».proof.Proof.Blocks
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! The gated cross-attention into the memory tokens, tile by tile and head by head. -/

@[expose] public section
set_option maxRecDepth 16384
noncomputable section
open Idealize.ShloMosaic Idealize.ShloMosaic.TcCoe Idealize.SL.Sem
namespace Cert.Attention
open Cert.Kernel23Ideal Cert.Kernel23Ideal.Gen Cert.AttnRow
open Cert.KernelIdeal.Pay (row mat)
open Cert.KernelIdeal.Blocks (head_of lane_of)
open Cert.ReferenceIdeal.Ref (Pr Kr col sgR)

/-- A row's attention output, times its gate. -/
def rowO (q : Fin 512 → EReal) (k v : Fin 256 → Fin 512 → EReal) (z : Fin 512 → EReal) (x : Fin 512) : EReal :=
  (∑ m, prob q k m * v m x) * (z x * sg (z x))
/-- The output at a row and a column of a head. -/
def outO (P : Fin 8192 → Fin 26624 → EReal) (KV : Fin 256 → Fin 4096 → EReal) (h : Fin 4) (s : Fin 8192) (x : Fin 512) : EReal :=
  rowO (qRow P h s) (kMat KV h) (vMat KV h) (zRow P h s) x

section Tile
variable (q z : FVec Ideal S256x512 .f32) (k v : FVec Ideal S256x512 .bf16) (r : Fin 256) (x : Fin 512)

/-- Head 0's store. -/
theorem o0 : (k0_pay2 (F := Ideal) q k v z (ix2 r x) : EReal) = rowO (row q r) (mat k) (mat v) (row z r) x := by
  pointwise [k0_pay2, row, mat, scl, lowest, score, top, ex, prob, sg, rowO]
/-- The other heads' stores are the same of their own tiles. -/
theorem o1 : (k0_pay4 (F := Ideal) (k0_pay3 q k) v z (ix2 r x) : EReal) = rowO (row q r) (mat k) (mat v) (row z r) x := o0 q z k v r x
theorem o2 : (k0_pay5 (F := Ideal) q k v z (ix2 r x) : EReal) = rowO (row q r) (mat k) (mat v) (row z r) x := o0 q z k v r x
theorem o3 : (k0_pay1 (F := Ideal) q k v z (ix2 r x) : EReal) = rowO (row q r) (mat k) (mat v) (row z r) x := o0 q z k v r x
end Tile

variable (m : (ℓ : Loc nD τ sig) → Buf (Elt Ideal) ℓ)

/-- The block each window takes at a point. -/
theorem idx : ∀ t : Fin cfg0.N, win0_0.index t = ![t.val, 8] ∧ win0_1.index t = ![t.val, 9] ∧ win0_2.index t = ![0, 0] ∧ win0_3.index t = ![t.val, 0] :=
  (by decide +kernel : ∀ t : Fin grid0.N, _)

/-- The projections, by row and column. -/
def Pa (c : Dev nD) : Fin 8192 → Fin 26624 → EReal := fun s x => m ((c : Thread nD τ).loc main_arg0) (ix2 s x)
/-- The memory's keys and values, by row and column. -/
def Ka (c : Dev nD) : Fin 256 → Fin 4096 → EReal := fun s x => m ((c : Thread nD τ).loc main_arg1) (ix2 s x)

/-- Row `r` of tile `t`. -/
def rowAt (t : Fin cfg0.N) (r : Fin 256) : Fin 8192 := ⟨256 * t.val + r.val, by have : t.val < 32 := t.isLt; omega⟩

/-- A head's tiles of the query and of the gate are its rows of the array. -/
theorem ld_rows (c : Dev nD) (t : Fin cfg0.N) (h : Fin 4) (o : ℕ) (ho : o = 512 * h.val) (inb : ∀ a, (![0, o] : Fin 2 → ℕ) a + (![256, 512] : Fin 2 → ℕ) a ≤ S256x2048.size a) (r : Fin 256) :
    row (View.ld (iblk m c 0 t) (Rect.unit ![0, o] ![256, 512] inb)) r = qRow (Pa m c) h (rowAt t r) ∧
    row (View.ld (iblk m c 1 t) (Rect.unit ![0, o] ![256, 512] inb)) r = zRow (Pa m c) h (rowAt t r) := by
  subst ho
  refine ⟨?_, ?_⟩
  all_goals funext a; unfold row Pa rowAt
  on_goal 1 => unfold qRow
  on_goal 2 => unfold zRow
  all_goals blk_point [iblk, V, idx t]
/-- A head's tile of the keys is its matrix. -/
theorem ld_k (c : Dev nD) (t : Fin cfg0.N) (h : Fin 4) (o : ℕ) (ho : o = 512 * h.val) (inb : ∀ a, (![0, o] : Fin 2 → ℕ) a + (![256, 512] : Fin 2 → ℕ) a ≤ S256x4096.size a) :
    mat (View.ld (iblk m c 2 t) (Rect.unit ![0, o] ![256, 512] inb)) = kMat (Ka m c) h := by
  subst ho
  funext a b; unfold mat kMat Ka
  blk_point [iblk, V, idx t]
/-- A head's tile of the values is its matrix. -/
theorem ld_v (c : Dev nD) (t : Fin cfg0.N) (h : Fin 4) (o : ℕ) (ho : o = 2048 + 512 * h.val) (inb : ∀ a, (![0, o] : Fin 2 → ℕ) a + (![256, 512] : Fin 2 → ℕ) a ≤ S256x4096.size a) :
    mat (View.ld (iblk m c 2 t) (Rect.unit ![0, o] ![256, 512] inb)) = vMat (Ka m c) h := by
  subst ho
  funext a b; unfold mat vMat Ka
  blk_point [iblk, V, idx t]

/-- What a point leaves in its block. -/
theorem point (c : Dev nD) (t : Fin cfg0.N) (y : S256x2048.Idx) :
    out0_3 (F := Ideal) (iblk m c 0 t) (iblk m c 1 t) (iblk m c 2 t) y = outO (Pa m c) (Ka m c) (head (y 1).val) (rowAt t (y 0)) (lane (y 1).val) := by
  frame_out
  canon_tiles y h
  all_goals obtain ⟨r, x, rfl⟩ : ∃ (r : Fin 256) (x : Fin 512), y = ix2 r x := ⟨y 0, y 1, by blk_ext⟩
  case piece0 =>
    rw [o3, head_of 3 x _ h1, lane_of 3 x _ h1, Fin.ext h0, (ld_rows m c t 3 1536 rfl _ _).1, (ld_rows m c t 3 1536 rfl _ _).2, ld_k m c t 3 1536 rfl, ld_v m c t 3 3584 rfl]
    rfl
  case piece1 =>
    rw [o2, head_of 2 x _ h1, lane_of 2 x _ h1, Fin.ext h0, (ld_rows m c t 2 1024 rfl _ _).1, (ld_rows m c t 2 1024 rfl _ _).2, ld_k m c t 2 1024 rfl, ld_v m c t 2 3072 rfl]
    rfl
  case piece2 =>
    rw [o1, head_of 1 x _ h1, lane_of 1 x _ h1, Fin.ext h0, (ld_rows m c t 1 512 rfl _ _).1, (ld_rows m c t 1 512 rfl _ _).2, ld_k m c t 1 512 rfl, ld_v m c t 1 2560 rfl]
    rfl
  case piece3 =>
    rw [o0, head_of 0 x _ (h1.trans (Nat.zero_add _).symm), lane_of 0 x _ (h1.trans (Nat.zero_add _).symm), Fin.ext h0, (ld_rows m c t 0 0 rfl _ _).1, (ld_rows m c t 0 0 rfl _ _).2, ld_k m c t 0 0 rfl, ld_v m c t 0 2048 rfl]
    rfl

/-- The result, in closed form. -/
theorem arr (c : Dev nD) : (dats m 0 c).arrAt 3 cfg0.N = fun y => outO (Pa m c) (Ka m c) (head (y 1)) (y 0) (lane (y 1)) := by
  refine (dats m 0 c).arrAt_eq_of_covers 3 _ (by decide +kernel) fun t hf y => ?_
  blk_simp [idx t]
  rw [after0_3, point]
  congr 1
  apply Fin.ext
  show 256 * t.val + (y 0).val = _
  blk_simp [idx t]
  omega

section Reference
open Cert.Reference23Ideal.Read
variable (x0 : FVec Ideal Cert.Reference23Ideal.S8192x26624 .f32) (x1 : FVec Ideal Cert.Reference23Ideal.S256x4096 .bf16)
  (h : Fin 4) (s : Fin 8192) (x : Fin 512)

/-- The reference's attention output. -/
theorem ref_attn : (val_main_v24 (F := Ideal) x0 x1 (ix2 s (col h x)) : EReal) =
    ∑ m, vMat (Kr x1) h m x * prob (qRow (Pr x0) h s) (kMat (Kr x1) h) m :=
  Cert.ReferenceIdeal.Ref.v41_at x0 x1 h s x
/-- The reference's gate. -/
theorem ref_gate : (val_main_v25 (F := Ideal) x0 (ix2 s (col h x)) : EReal) = zRow (Pr x0) h s x * sg (zRow (Pr x0) h s x) := by
  have e : (val_main_v1 (F := Ideal) x0 (ix2 s (col h x)) : EReal) = zRow (Pr x0) h s x := Cert.ReferenceIdeal.Ref.v1_at x0 h s x
  rw [val_main_v25_apply, val_main_call0_v5_apply, val_main_call0_v4_apply, val_main_call0_cst_0_apply, val_main_call0_v3_apply, val_main_call0_v2_apply,
    val_main_call0_cst_apply, val_main_call0_v1_apply, val_main_call0_v0_apply, e, Ideal.ofBits_def, Ideal.ofBits_one_f32]
  rfl
/-- The reference's output. -/
theorem ref_out : (val_main_v27 (F := Ideal) x0 x1 (ix2 s (col h x)) : EReal) = outO (Pr x0) (Kr x1) h s x := by
  rw [val_main_v27_apply, val_main_v26_apply, ref_attn, ref_gate]
  unfold outO rowO
  simp only [mul_comm (prob _ _ _)]
  rfl
end Reference

/-- The kernel ends with the reference's gated attention in its output. -/
theorem algebraic : Cert.algebraic_Kernel23Ideal_Reference23Ideal := by
  intro m g m' g' _ he
  refine ⟨fun c => (dats m 0 c).arrAt 3 cfg0.N, Cert.Kernel23Ideal.Value.run_blocks m g, ?_⟩
  refine (θ_run Cert.Reference23Ideal.defs _ _).mono (fun r h c => ⟨(h c).1.trans ?_, (h c).2⟩) (Cert.Reference23Ideal.Value.run m' g')
  rw [Cert.Reference23Ideal.Read.val_main_v27_eq, (he c).1, (he c).2]
  refine Eq.trans ?_ (arr m c).symm
  funext y
  obtain ⟨s, h, x, rfl⟩ : ∃ (s : Fin 8192) (h : Fin 4) (x : Fin 512), y = ix2 s (col h x) :=
    ⟨y 0, head (y 1).val, lane (y 1).val, by unfold col head lane; blk_ext⟩
  refine (ref_out _ _ h s x).trans ?_
  show _ = outO _ _ (head (col h x).val) s (lane (col h x).val)
  rw [head_of h x (col h x).val rfl, lane_of h x (col h x).val rfl]
  rfl

/-- The reference ends with its arguments as they were; it declares no semaphore. -/
theorem frame : Cert.quiescent_Reference23Ideal := fun m g _ =>
  (θ_run Cert.Reference23Ideal.defs _ _).mono (fun r h => ⟨fun c => (h c).2, sem_eq_zero_of_no_sems (by decide) r.2⟩)
    (Cert.Reference23Ideal.Value.run (F := Ideal) m g)

end Cert.Attention
end
-- ==== Proof.InputNormForward.lean ====
module
public import proofs.«01_k».proof.Proof.Gen.Kernel24Ideal.Value
public import proofs.«01_k».proof.Proof.Gen.Reference24Ideal.Read
public import proofs.«01_k».proof.Proof.InputNorm
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! The layer's first norm, tile by tile. -/

@[expose] public section
set_option maxRecDepth 16384
noncomputable section
open Idealize.ShloMosaic Idealize.ShloMosaic.TcCoe Idealize.SL.Sem
namespace Cert.InputNormForward
open Cert.Kernel24Ideal Cert.Kernel24Ideal.Gen

variable (m : (ℓ : Loc nD τ sig) → Buf (Elt Ideal) ℓ)

/-- The block each window takes at a point. -/
theorem idx : ∀ t : Fin cfg0.N, win0_0.index t = ![t.val, 0] ∧ win0_1.index t = ![0, 0] ∧ win0_2.index t = ![t.val, 0] :=
  (by decide +kernel : ∀ t : Fin grid0.N, _)

/-- A row of the input. -/
def X (c : Dev nD) : Fin 8192 → Fin 2048 → EReal := fun s k => m ((c : Thread nD τ).loc main_arg0) (ix2 s k)
/-- The gain. -/
def G (c : Dev nD) : Fin 2048 → EReal := fun k => m ((c : Thread nD τ).loc main_arg1) (ix2 0 k)
/-- A normalized row. -/
def row (x g : Fin 2048 → EReal) (j : Fin 2048) : EReal := x j * Cert.InputNorm.inv x * g j

/-- The row of the whole array a point's row is. -/
def at_ (t : Fin cfg0.N) (r : Fin 256) : Fin 8192 := ⟨256 * t.val + r.val, by have : t.val < 32 := t.isLt; omega⟩

/-- A normalized row of a tile. -/
theorem pay (x : FVec Ideal S256x2048 .f32) (g : FVec Ideal S1x2048 .f32) (r : Fin 256) (j : Fin 2048) :
    (k0_pay1 (F := Ideal) x g (ix2 r j) : EReal) = row (fun k => x (ix2 r k)) (fun k => g (ix2 0 k)) j := by
  unfold row Cert.InputNorm.inv Cert.InputNorm.msq Cert.InputNorm.len
  pointwise [k0_pay1]

/-- The tile's rows, read in the whole arrays. -/
theorem blk (c : Dev nD) (t : Fin cfg0.N) (r : Fin 256) (k : Fin 2048) :
    (iblk m c 0 t : FVec Ideal S256x2048 .f32) (ix2 r k) = X m c (at_ t r) k ∧ (iblk m c 1 t : FVec Ideal S1x2048 .f32) (ix2 0 k) = G m c k := by
  unfold X G at_
  refine ⟨?_, ?_⟩
  all_goals blk_point [iblk, V, idx t]

/-- The result, in closed form. -/
theorem arr (c : Dev nD) : (dats m 0 c).arrAt 2 cfg0.N = fun y => row (X m c (y 0)) (G m c) (y 1) := by
  refine (dats m 0 c).arrAt_eq_of_covers 2 _ (by decide +kernel) fun t hf y => ?_
  obtain ⟨r, j, rfl⟩ : ∃ (r : Fin 256) (j : Fin 2048), y = ix2 r j := ⟨y 0, y 1, by blk_ext⟩
  blk_simp [idx t]
  have e0 : (win0_2.blk t).view.emb (ix2 r j) 0 = at_ t r := by
    apply Fin.ext; unfold at_; blk_simp [idx t]; dsimp only; omega
  have e1 : (win0_2.blk t).view.emb (ix2 r j) 1 = j := by
    apply Fin.ext; blk_simp [idx t]
  rw [after0_2, e0, e1]
  frame_out
  rw [pay]
  simp only [blk m c t r]

section Reference
open Cert.Reference24Ideal.Read
variable (x : FVec Ideal S8192x2048 .f32) (g : FVec Ideal S1x2048 .f32) (s : Fin 8192) (j : Fin 2048)

/-- One over the root of a row's mean square. -/
theorem ref_inv : (val_main_v7 (F := Ideal) x (ix2 s 0) : EReal) = Cert.InputNorm.inv fun k => x (ix2 s k) := by
  have e : ∀ k, idx_main_v1 (idx_main_v2 (ix2 s 0)) k = ix2 s k := fun k => by blk_ext
  rw [val_main_v7_apply, val_main_v6_apply, val_main_v4_apply, val_main_v2_apply, val_main_v1_apply, val_main_v3_apply, val_main_v5_apply, val_main_cst_apply,
    Ideal.ofBits_def, Ideal.ofBits_zero_f32, zero_add]
  simp only [e]
  rfl
/-- The reference's normalized row. -/
theorem ref_row : (val_main_v12 (F := Ideal) x g (ix2 s j) : EReal) = row (fun k => x (ix2 s k)) (fun k => g (ix2 0 k)) j := by
  have e : idx_main_v8 (ix2 s j) = ix2 s 0 := by blk_ext
  have e' : idx_main_v10 (ix2 s j) = ix2 0 j := by blk_ext
  rw [val_main_v12_apply, val_main_v11_apply, val_main_v9_apply, val_main_v8_apply, e, ref_inv, val_main_v10_apply, e']
  rfl
end Reference

/-- The kernel ends with the reference's normalized rows in its output. -/
theorem algebraic : Cert.algebraic_Kernel24Ideal_Reference24Ideal := by
  intro m g m' g' _ he
  refine ⟨fun c => (dats m 0 c).arrAt 2 cfg0.N, Cert.Kernel24Ideal.Value.run_blocks m g, ?_⟩
  refine (θ_run Cert.Reference24Ideal.defs _ _).mono (fun r h c => ⟨(h c).1.trans ?_, (h c).2⟩) (Cert.Reference24Ideal.Value.run m' g')
  rw [Cert.Reference24Ideal.Read.val_main_v12_eq, (he c).1, (he c).2]
  refine Eq.trans ?_ (arr m c).symm
  funext y
  obtain ⟨s, j, rfl⟩ : ∃ (s : Fin 8192) (j : Fin 2048), y = ix2 s j := ⟨y 0, y 1, by blk_ext⟩
  exact ref_row _ _ s j

/-- The reference ends with its arguments as they were; it declares no semaphore. -/
theorem frame : Cert.quiescent_Reference24Ideal := fun m g _ =>
  (θ_run Cert.Reference24Ideal.defs _ _).mono (fun r h => ⟨fun c => (h c).2, sem_eq_zero_of_no_sems (by decide) r.2⟩)
    (Cert.Reference24Ideal.Value.run (F := Ideal) m g)

end Cert.InputNormForward
end
-- ==== Proof.MemoryNorm.lean ====
module
public import proofs.«01_k».proof.Proof.Gen.Kernel25Ideal.Value
public import proofs.«01_k».proof.Proof.Gen.Reference25Ideal.Read
public import proofs.«01_k».proof.Proof.InputNormForward
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! The norm of the memory's rows, which are one tile. -/

@[expose] public section
set_option maxRecDepth 16384
noncomputable section
open Idealize.ShloMosaic Idealize.ShloMosaic.TcCoe Idealize.SL.Sem
namespace Cert.MemoryNorm
open Cert.Kernel25Ideal Cert.Kernel25Ideal.Gen
open Cert.InputNormForward (row)

variable (m : (ℓ : Loc nD τ sig) → Buf (Elt Ideal) ℓ)

/-- The block each window takes at a point. -/
theorem idx : ∀ t : Fin cfg0.N, win0_0.index t = ![0, 0] ∧ win0_1.index t = ![0, 0] ∧ win0_2.index t = ![0, 0] :=
  (by decide +kernel : ∀ t : Fin grid0.N, _)

/-- A row of the input. -/
def X (c : Dev nD) : Fin 256 → Fin 2048 → EReal := fun s k => m ((c : Thread nD τ).loc main_arg0) (ix2 s k)
/-- The gain. -/
def G (c : Dev nD) : Fin 2048 → EReal := fun k => m ((c : Thread nD τ).loc main_arg1) (ix2 0 k)

/-- A normalized row of a tile. -/
theorem pay (x : FVec Ideal S256x2048 .f32) (g : FVec Ideal S1x2048 .f32) (r : Fin 256) (j : Fin 2048) :
    (k0_pay1 (F := Ideal) x g (ix2 r j) : EReal) = row (fun k => x (ix2 r k)) (fun k => g (ix2 0 k)) j :=
  Cert.InputNormForward.pay x g r j

/-- The tile's rows, read in the whole arrays. -/
theorem blk (c : Dev nD) (t : Fin cfg0.N) (r : Fin 256) (k : Fin 2048) :
    (iblk m c 0 t : FVec Ideal S256x2048 .f32) (ix2 r k) = X m c r k ∧ (iblk m c 1 t : FVec Ideal S1x2048 .f32) (ix2 0 k) = G m c k := by
  unfold X G
  refine ⟨?_, ?_⟩
  all_goals blk_point [iblk, V, idx t]

/-- The result, in closed form. -/
theorem arr (c : Dev nD) : (dats m 0 c).arrAt 2 cfg0.N = fun y => row (X m c (y 0)) (G m c) (y 1) := by
  refine (dats m 0 c).arrAt_eq_of_covers 2 _ (by decide +kernel) fun t hf y => ?_
  obtain ⟨r, j, rfl⟩ : ∃ (r : Fin 256) (j : Fin 2048), y = ix2 r j := ⟨y 0, y 1, by blk_ext⟩
  blk_simp [idx t]
  have e0 : (win0_2.blk t).view.emb (ix2 r j) 0 = r := by
    apply Fin.ext; blk_simp [idx t]
  have e1 : (win0_2.blk t).view.emb (ix2 r j) 1 = j := by
    apply Fin.ext; blk_simp [idx t]
  rw [after0_2, e0, e1]
  frame_out
  rw [pay]
  simp only [blk m c t r]

section Reference
open Cert.Reference25Ideal.Read
variable (x : FVec Ideal S256x2048 .f32) (g : FVec Ideal S1x2048 .f32) (s : Fin 256) (j : Fin 2048)

/-- One over the root of a row's mean square. -/
theorem ref_inv : (val_main_v7 (F := Ideal) x (ix2 s 0) : EReal) = Cert.InputNorm.inv fun k => x (ix2 s k) := by
  have e : ∀ k, idx_main_v1 (idx_main_v2 (ix2 s 0)) k = ix2 s k := fun k => by blk_ext
  rw [val_main_v7_apply, val_main_v6_apply, val_main_v4_apply, val_main_v2_apply, val_main_v1_apply, val_main_v3_apply, val_main_v5_apply, val_main_cst_apply,
    Ideal.ofBits_def, Ideal.ofBits_zero_f32, zero_add]
  simp only [e]
  rfl
/-- The reference's normalized row. -/
theorem ref_row : (val_main_v12 (F := Ideal) x g (ix2 s j) : EReal) = row (fun k => x (ix2 s k)) (fun k => g (ix2 0 k)) j := by
  have e : idx_main_v8 (ix2 s j) = ix2 s 0 := by blk_ext
  have e' : idx_main_v10 (ix2 s j) = ix2 0 j := by blk_ext
  rw [val_main_v12_apply, val_main_v11_apply, val_main_v9_apply, val_main_v8_apply, e, ref_inv, val_main_v10_apply, e']
  rfl
end Reference

/-- The kernel ends with the reference's normalized rows in its output. -/
theorem algebraic : Cert.algebraic_Kernel25Ideal_Reference25Ideal := by
  intro m g m' g' _ he
  refine ⟨fun c => (dats m 0 c).arrAt 2 cfg0.N, Cert.Kernel25Ideal.Value.run_blocks m g, ?_⟩
  refine (θ_run Cert.Reference25Ideal.defs _ _).mono (fun r h c => ⟨(h c).1.trans ?_, (h c).2⟩) (Cert.Reference25Ideal.Value.run m' g')
  rw [Cert.Reference25Ideal.Read.val_main_v12_eq, (he c).1, (he c).2]
  refine Eq.trans ?_ (arr m c).symm
  funext y
  obtain ⟨s, j, rfl⟩ : ∃ (s : Fin 256) (j : Fin 2048), y = ix2 s j := ⟨y 0, y 1, by blk_ext⟩
  exact ref_row _ _ s j

/-- The reference ends with its arguments as they were; it declares no semaphore. -/
theorem frame : Cert.quiescent_Reference25Ideal := fun m g _ =>
  (θ_run Cert.Reference25Ideal.defs _ _).mono (fun r h => ⟨fun c => (h c).2, sem_eq_zero_of_no_sems (by decide) r.2⟩)
    (Cert.Reference25Ideal.Value.run (F := Ideal) m g)

end Cert.MemoryNorm
end
-- ==== Proof.HeadNorm.lean ====
module
public import proofs.«01_k».proof.Proof.Gen.Kernel26Ideal.Value
public import proofs.«01_k».proof.Proof.Gen.Reference26Ideal.Read
public import proofs.«01_k».proof.Proof.Ref
public import proofs.«01_k».proof.Proof.Blocks
public import Idealize.ShloMosaic.Lib.Pipeline.ValueKit
public import Idealize.ShloMosaic.Lib.Pipeline.ReadBack
public import Idealize.ShloMosaic.Lib.Pointwise
public import Idealize.ShloMosaic.Adequacy
public import proofs.«01_k».proof.Defs

/-! The norm and the gate of the recurrence's heads, tile by tile and head by head. -/

@[expose] public section
set_option maxRecDepth 16384
noncomputable section
open Idealize.ShloMosaic Idealize.ShloMosaic.TcCoe Idealize.SL.Sem
namespace Cert.HeadNorm
open Cert.Kernel26Ideal Cert.Kernel26Ideal.Gen
open Cert.AttnRow (head lane)
open Cert.KernelIdeal.Blocks (head_of lane_of)

/-- One over the length of a row. -/
def inv (u : Fin 512 → EReal) : EReal := Ideal.rsqrt (Ideal.div (∑ k, u k * u k) (Ideal.ofBits .f32 0x44000000#32) + Ideal.ofBits .f32 0x358637BD#32)
/-- A row through its output gate. -/
def opened (h o : Fin 512 → EReal) : Fin 512 → EReal := fun k => Ideal.logistic (o k) * h k
/-- The opened row, normed, times its gain and the outer gate. -/
def rowN (h o z g : Fin 512 → EReal) (x : Fin 512) : EReal :=
  opened h o x * inv (opened h o) * g x * (z x * Ideal.logistic (z x))

/-- Row `s` of head `h` of an array of `n` columns whose heads begin at column `b`. -/
def part {a n : ℕ} (b : ℕ) (hb : b + 2048 ≤ n) (A : Fin a → Fin n → EReal) (h : Fin 4) (s : Fin a) : Fin 512 → EReal :=
  fun x => A s ⟨b + 512 * h.val + x.val, by omega⟩

/-- The output at a row and a column of a head. -/
def outN (H : Fin 8192 → Fin 2048 → EReal) (P : Fin 8192 → Fin 26624 → EReal) (G : Fin 1 → Fin 2048 → EReal) (h : Fin 4) (s : Fin 8192) (x : Fin 512) : EReal :=
  rowN (part 0 (by omega) H h s) (part 12288 (by omega) P h s) (part 14336 (by omega) P h s) (part 0 (by omega) G h 0) x

section Tile
variable (o h z : FVec Ideal S256x512 .f32) (g : FVec Ideal S1x512 .f32) (r : Fin 256) (x : Fin 512)

/-- A row of a tile. -/
def row {a : ℕ} (v : FVec Ideal ⟨2, ![a, 512]⟩ .f32) (s : Fin a) : Fin 512 → EReal := fun k => v (ix2 s k)

/-- Head 0's store. -/
theorem o0 : (k0_pay2 (F := Ideal) o h z g (ix2 r x) : EReal) = rowN (row h r) (row o r) (row z r) (row g 0) x := by
  pointwise [k0_pay2, row, rowN, inv, opened]
/-- The other heads' stores are the same of their own tiles. -/
theorem o1 : (k0_pay5 (F := Ideal) (k0_pay3 o h) (k0_pay4 o h) z g (ix2 r x) : EReal) = rowN (row h r) (row o r) (row z r) (row g 0) x := o0 o h z g r x
theorem o2 : (k0_pay6 (F := Ideal) o h z g (ix2 r x) : EReal) = rowN (row h r) (row o r) (row z r) (row g 0) x := o0 o h z g r x
theorem o3 : (k0_pay1 (F := Ideal) (k0_pay7 o h) z g (ix2 r x) : EReal) = rowN (row h r) (row o r) (row z r) (row g 0) x := o0 o h z g r x
end Tile

variable (m : (ℓ : Loc nD τ sig) → Buf (Elt Ideal) ℓ)

/-- The block each window takes at a point. -/
theorem idx : ∀ t : Fin cfg0.N, win0_0.index t = ![t.val, 0] ∧ win0_1.index t = ![t.val, 6] ∧ win0_2.index t = ![t.val, 7] ∧ win0_3.index t = ![0, 0] ∧
    win0_4.index t = ![t.val, 0] :=
  (by decide +kernel : ∀ t : Fin grid0.N, _)

/-- The recurrence's output, by row and column. -/
def Ha (c : Dev nD) : Fin 8192 → Fin 2048 → EReal := fun s x => m ((c : Thread nD τ).loc main_arg0) (ix2 s x)
/-- The projections, by row and column. -/
def Pa (c : Dev nD) : Fin 8192 → Fin 26624 → EReal := fun s x => m ((c : Thread nD τ).loc main_arg1) (ix2 s x)
/-- The gain. -/
def Ga (c : Dev nD) : Fin 1 → Fin 2048 → EReal := fun s x => m ((c : Thread nD τ).loc main_arg2) (ix2 s x)

/-- Row `r` of tile `t`. -/
def rowAt (t : Fin cfg0.N) (r : Fin 256) : Fin 8192 := ⟨256 * t.val + r.val, by have : t.val < 32 := t.isLt; omega⟩

/-- A head's tiles are its rows of the arrays. -/
theorem ld (c : Dev nD) (t : Fin cfg0.N) (h : Fin 4) (o : ℕ) (ho : o = 512 * h.val) (inb : ∀ a, (![0, o] : Fin 2 → ℕ) a + (![256, 512] : Fin 2 → ℕ) a ≤ S256x2048.size a)
    (inb' : ∀ a, (![0, o] : Fin 2 → ℕ) a + (![1, 512] : Fin 2 → ℕ) a ≤ S1x2048.size a) (r : Fin 256) :
    row (View.ld (iblk m c 0 t) (Rect.unit ![0, o] ![256, 512] inb)) r = part 0 (by omega) (Ha m c) h (rowAt t r) ∧
    row (View.ld (iblk m c 1 t) (Rect.unit ![0, o] ![256, 512] inb)) r = part 12288 (by omega) (Pa m c) h (rowAt t r) ∧
    row (View.ld (iblk m c 2 t) (Rect.unit ![0, o] ![256, 512] inb)) r = part 14336 (by omega) (Pa m c) h (rowAt t r) ∧
    row (View.ld (iblk m c 3 t) (Rect.unit ![0, o] ![1, 512] inb')) 0 = part 0 (by omega) (Ga m c) h 0 := by
  subst ho
  refine ⟨?_, ?_, ?_, ?_⟩
  all_goals funext a; unfold row part
  on_goal 1 => unfold Ha rowAt
  on_goal 2 => unfold Pa rowAt
  on_goal 3 => unfold Pa rowAt
  on_goal 4 => unfold Ga
  all_goals blk_point [iblk, V, idx t]

/-- What a point leaves in its block. -/
theorem point (c : Dev nD) (t : Fin cfg0.N) (y : S256x2048.Idx) :
    out0_4 (F := Ideal) (iblk m c 0 t) (iblk m c 1 t) (iblk m c 2 t) (iblk m c 3 t) y = outN (Ha m c) (Pa m c) (Ga m c) (head (y 1).val) (rowAt t (y 0)) (lane (y 1).val) := by
  frame_out
  canon_tiles y h
  all_goals obtain ⟨r, x, rfl⟩ : ∃ (r : Fin 256) (x : Fin 512), y = ix2 r x := ⟨y 0, y 1, by blk_ext⟩
  case piece0 =>
    obtain ⟨a, b, d, e⟩ := ld m c t 3 1536 rfl inb_S256x2048_S256x512_0_1536 inb_S1x2048_S1x512_0_1536 r
    rw [o3, head_of 3 x _ h1, lane_of 3 x _ h1, Fin.ext h0]
    exact congr (congr (congr (congr (congrArg rowN a) b) d) e) rfl
  case piece1 =>
    obtain ⟨a, b, d, e⟩ := ld m c t 2 1024 rfl inb_S256x2048_S256x512_0_1024 inb_S1x2048_S1x512_0_1024 r
    rw [o2, head_of 2 x _ h1, lane_of 2 x _ h1, Fin.ext h0]
    exact congr (congr (congr (congr (congrArg rowN a) b) d) e) rfl
  case piece2 =>
    obtain ⟨a, b, d, e⟩ := ld m c t 1 512 rfl inb_S256x2048_S256x512_0_512 inb_S1x2048_S1x512_0_512 r
    rw [o1, head_of 1 x _ h1, lane_of 1 x _ h1, Fin.ext h0]
    exact congr (congr (congr (congr (congrArg rowN a) b) d) e) rfl
  case piece3 =>
    obtain ⟨a, b, d, e⟩ := ld m c t 0 0 rfl inb_S256x2048_S256x512_0_0 inb_S1x2048_S1x512_0_0 r
    rw [o0, head_of 0 x _ (h1.trans (Nat.zero_add _).symm), lane_of 0 x _ (h1.trans (Nat.zero_add _).symm), Fin.ext h0]
    exact congr (congr (congr (congr (congrArg rowN a) b) d) e) rfl

/-- The result, in closed form. -/
theorem arr (c : Dev nD) : (dats m 0 c).arrAt 4 cfg0.N = fun y => outN (Ha m c) (Pa m c) (Ga m c) (head (y 1)) (y 0) (lane (y 1)) := by
  refine (dats m 0 c).arrAt_eq_of_covers 4 _ (by decide +kernel) fun t hf y => ?_
  blk_simp [idx t]
  rw [after0_4, point]
  congr 1
  apply Fin.ext
  show 256 * t.val + (y 0).val = _
  blk_simp [idx t]
  omega

section Reference
open Cert.Reference26Ideal.Read
open Cert.ReferenceIdeal.Ref (col)
variable (x0 : FVec Ideal Cert.Reference26Ideal.S8192x2048 .f32) (x1 : FVec Ideal Cert.Reference26Ideal.S8192x26624 .f32)
  (x2 : FVec Ideal Cert.Reference26Ideal.S1x2048 .f32) (h : Fin 4) (s : Fin 8192) (x : Fin 512)

/-- The recurrence's output in the reference. -/
def hR : Fin 512 → EReal := part 0 (by omega) (fun s x => x0 (ix2 s x)) h s
/-- The output gate in the reference. -/
def oR : Fin 512 → EReal := part 12288 (by omega) (fun s x => x1 (ix2 s x)) h s
/-- The outer gate in the reference. -/
def zR : Fin 512 → EReal := part 14336 (by omega) (fun s x => x1 (ix2 s x)) h s
/-- The gain in the reference. -/
def gR : Fin 512 → EReal := part 0 (by omega) (fun s x => x2 (ix2 s x)) h 0

/-- The reference's opened row. -/
theorem v9_at : (val_main_v9 (F := Ideal) x0 x1 (ix3 s h x) : EReal) = opened (hR x0 h s) (oR x1 h s) x := by
  have a : idx_main_v9 (ix3 s h x) = ix2 s (⟨0 + 512 * h.val + x.val, by omega⟩ : Fin 2048) := by blk_ext
  have b : idx_main_v0 (ix2 s (⟨0 + 512 * h.val + x.val, by omega⟩ : Fin 2048)) = ix2 s (⟨12288 + 512 * h.val + x.val, by omega⟩ : Fin 26624) := by blk_ext
  rw [val_main_v9_apply, a, val_main_v8_apply, val_main_v7_apply, val_main_v6_apply, val_main_cst_0_apply, val_main_v5_apply, val_main_v4_apply, val_main_cst_apply,
    val_main_v3_apply, val_main_v2_apply, val_main_v0_apply, b, Ideal.ofBits_def, Ideal.ofBits_one_f32]
  rfl
/-- The reference's one over the length. -/
theorem v19_at : (val_main_v19 (F := Ideal) x0 x1 (ix3 s h x) : EReal) = inv (opened (hR x0 h s) (oR x1 h s)) := by
  have a : idx_main_v13 (idx_main_v19 (ix3 s h x)) = ix2 s h := by blk_ext
  have b : ∀ k : Fin 512, idx_main_v12 (ix2 s h) k = ix3 s h k := fun k => by blk_ext
  rw [val_main_v19_apply, val_main_v18_apply, val_main_v17_apply, val_main_v15_apply, val_main_v16_apply, val_main_cst_3_apply, val_main_v14_apply,
    val_main_cst_2_apply, val_main_v13_apply, a, val_main_v12_apply, val_main_cst_1_apply, Ideal.ofBits_def, Ideal.ofBits_zero_f32, zero_add]
  simp only [b, val_main_v11_apply, v9_at]
  rfl
/-- The reference's gain. -/
theorem v22_at : (val_main_v22 (F := Ideal) x2 (ix3 s h x) : EReal) = gR x2 h x := by
  have a : idx_main_v10 (idx_main_v21 (idx_main_v22 (ix3 s h x))) = ix2 0 (⟨0 + 512 * h.val + x.val, by omega⟩ : Fin 2048) := by blk_ext
  rw [val_main_v22_apply, val_main_v21_apply, val_main_v10_apply, a]
  rfl
/-- The reference's outer gate. -/
theorem v25_at : (val_main_v25 (F := Ideal) x1 (ix2 s (col h x)) : EReal) = zR x1 h s x * Ideal.logistic (zR x1 h s x) := by
  have a : idx_main_v1 (ix2 s (col h x)) = ix2 s (⟨14336 + 512 * h.val + x.val, by omega⟩ : Fin 26624) := by unfold col; blk_ext
  rw [val_main_v25_apply, val_main_call0_v5_apply, val_main_call0_v4_apply, val_main_call0_cst_0_apply, val_main_call0_v3_apply, val_main_call0_v2_apply,
    val_main_call0_cst_apply, val_main_call0_v1_apply, val_main_call0_v0_apply, val_main_v1_apply, a, Ideal.ofBits_def, Ideal.ofBits_one_f32]
  rfl
/-- The reference's output. -/
theorem ref_out : (val_main_v27 (F := Ideal) x0 x1 x2 (ix2 s (col h x)) : EReal) = rowN (hR x0 h s) (oR x1 h s) (zR x1 h s) (gR x2 h) x := by
  have a : idx_main_v24 (ix2 s (col h x)) = ix3 s h x := by unfold col; blk_ext
  rw [val_main_v27_apply, val_main_v26_apply, val_main_v24_apply, a, val_main_v23_apply, val_main_v20_apply, v9_at, v19_at, v22_at, v25_at]
  rfl
end Reference

/-- The kernel ends with the reference's normed and gated heads in its output. -/
theorem algebraic : Cert.algebraic_Kernel26Ideal_Reference26Ideal := by
  intro m g m' g' _ he
  refine ⟨fun c => (dats m 0 c).arrAt 4 cfg0.N, Cert.Kernel26Ideal.Value.run_blocks m g, ?_⟩
  refine (θ_run Cert.Reference26Ideal.defs _ _).mono (fun r h c => ⟨(h c).1.trans ?_, (h c).2⟩) (Cert.Reference26Ideal.Value.run m' g')
  obtain ⟨e0, e1, e2⟩ := he c
  rw [Cert.Reference26Ideal.Read.val_main_v27_eq, e0, e1, e2]
  refine Eq.trans ?_ (arr m c).symm
  funext y
  obtain ⟨s, h, x, rfl⟩ : ∃ (s : Fin 8192) (h : Fin 4) (x : Fin 512), y = ix2 s (Cert.ReferenceIdeal.Ref.col h x) :=
    ⟨y 0, head (y 1).val, lane (y 1).val, by unfold Cert.ReferenceIdeal.Ref.col head lane; blk_ext⟩
  refine (ref_out _ _ _ h s x).trans ?_
  show _ = outN _ _ _ (head (Cert.ReferenceIdeal.Ref.col h x).val) s (lane (Cert.ReferenceIdeal.Ref.col h x).val)
  rw [head_of h x (Cert.ReferenceIdeal.Ref.col h x).val rfl, lane_of h x (Cert.ReferenceIdeal.Ref.col h x).val rfl]
  rfl

/-- The reference ends with its arguments as they were; it declares no semaphore. -/
theorem frame : Cert.quiescent_Reference26Ideal := fun m g _ =>
  (θ_run Cert.Reference26Ideal.defs _ _).mono (fun r h => ⟨fun c => (h c).2, sem_eq_zero_of_no_sems (by decide) r.2⟩)
    (Cert.Reference26Ideal.Value.run (F := Ideal) m g)

end Cert.HeadNorm
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Finite
public import proofs.«01_k».proof.Proof.MainInput
public import proofs.«01_k».proof.Proof.Gen.Kernel2.Frame
public import proofs.«01_k».proof.Proof.MainWeight
public import proofs.«01_k».proof.Proof.Gen.Kernel3.Frame
public import proofs.«01_k».proof.Proof.MainProduct
public import proofs.«01_k».proof.Proof.Gen.Kernel4.Frame
public import proofs.«01_k».proof.Proof.OutInput
public import proofs.«01_k».proof.Proof.Gen.Kernel5.Frame
public import proofs.«01_k».proof.Proof.OutWeight
public import proofs.«01_k».proof.Proof.Gen.Kernel6.Frame
public import proofs.«01_k».proof.Proof.OutProduct
public import proofs.«01_k».proof.Proof.Gen.Kernel7.Frame
public import proofs.«01_k».proof.Proof.InputNorm
public import proofs.«01_k».proof.Proof.Gen.Kernel8.Frame
public import proofs.«01_k».proof.Proof.Merge
public import proofs.«01_k».proof.Proof.Gen.Kernel9.Frame
public import proofs.«01_k».proof.Proof.MemoryInput
public import proofs.«01_k».proof.Proof.Gen.Kernel10.Frame
public import proofs.«01_k».proof.Proof.MemoryWeight
public import proofs.«01_k».proof.Proof.Gen.Kernel11.Frame
public import proofs.«01_k».proof.Proof.GateInput
public import proofs.«01_k».proof.Proof.Gen.Kernel12.Frame
public import proofs.«01_k».proof.Proof.GateWeight
public import proofs.«01_k».proof.Proof.Gen.Kernel13.Frame
public import proofs.«01_k».proof.Proof.MemoryProduct
public import proofs.«01_k».proof.Proof.Gen.Kernel15.Frame
public import proofs.«01_k».proof.Proof.GateProduct
public import proofs.«01_k».proof.Proof.Gen.Kernel16.Frame
public import proofs.«01_k».proof.Proof.AdamSmall
public import proofs.«01_k».proof.Proof.Gen.Kernel17.Frame
public import proofs.«01_k».proof.Proof.AdamConv
public import proofs.«01_k».proof.Proof.Gen.Kernel18.Frame
public import proofs.«01_k».proof.Proof.AdamDepthwise
public import proofs.«01_k».proof.Proof.Gen.Kernel19.Frame
public import proofs.«01_k».proof.Proof.MergeForward
public import proofs.«01_k».proof.Proof.Gen.Kernel14.Frame
public import proofs.«01_k».proof.Proof.AdamProjection
public import proofs.«01_k».proof.Proof.Gen.Kernel20.Frame
public import proofs.«01_k».proof.Proof.AdamOut
public import proofs.«01_k».proof.Proof.Gen.Kernel21.Frame
public import proofs.«01_k».proof.Proof.AdamMemory
public import proofs.«01_k».proof.Proof.Gen.Kernel22.Frame
public import proofs.«01_k».proof.Proof.Attention
public import proofs.«01_k».proof.Proof.Gen.Kernel23.Frame
public import proofs.«01_k».proof.Proof.InputNormForward
public import proofs.«01_k».proof.Proof.Gen.Kernel24.Frame
public import proofs.«01_k».proof.Proof.MemoryNorm
public import proofs.«01_k».proof.Proof.Gen.Kernel25.Frame
public import proofs.«01_k».proof.Proof.HeadNorm
public import proofs.«01_k».proof.Proof.Gen.Kernel26.Frame
public import Idealize.ShloMosaic.Adequacy
public import Idealize.ShloMosaic.Init

@[expose] public section

noncomputable section

namespace Cert.Proof

open Idealize.ShloMosaic Idealize.SL.Sem

/-- The reference ends with its arguments as they were; it declares no semaphore. -/
theorem frame_reference : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- On finite inputs the kernel's three results are the reference's. -/
theorem algebraic : Cert.algebraic_KernelIdeal_ReferenceIdeal_pre_finite (hPre_finite := Cert.Pre_finite.facts) := by
  intro m g m' g' hf he
  refine ⟨fun c => (Cert.KernelIdeal.Gen.dats m 0 c).arrAt 4 Cert.KernelIdeal.cfg0.N, fun c => (Cert.KernelIdeal.Gen.dats m 0 c).arrAt 5 Cert.KernelIdeal.cfg0.N,
    fun c => (Cert.KernelIdeal.Gen.dats m 0 c).arrAt 6 Cert.KernelIdeal.cfg0.N, Cert.KernelIdeal.Value.run_blocks m g, ?_⟩
  refine (θ_run Cert.ReferenceIdeal.defs _ _).mono (fun r h c => ?_) (Cert.ReferenceIdeal.Value.run m' g')
  obtain ⟨h0, h1, h2, ha⟩ := h c
  obtain ⟨e0, e1, e2⟩ := he c
  refine ⟨h0.trans ?_, h1.trans ?_, h2.trans ?_, ha⟩
  · rw [Cert.ReferenceIdeal.Read.val_main_v74_eq, e0, e1, e2]
    exact (Cert.KernelIdeal.Blocks.ref_q m c hf).trans (Cert.KernelIdeal.Blocks.arr4 m c).symm
  · rw [Cert.ReferenceIdeal.Read.val_main_v75_eq, e0, e1, e2]
    exact (Cert.KernelIdeal.Blocks.ref_z m c hf).trans (Cert.KernelIdeal.Blocks.arr5 m c).symm
  · rw [Cert.ReferenceIdeal.Read.val_main_v73_eq, e0, e1, e2]
    exact (Cert.KernelIdeal.Blocks.ref_kv m c hf).trans (Cert.KernelIdeal.Blocks.arr6 m c).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Pre_finite.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, Cert.MainInput.frame,
    fun m ρ _ => Cert.Kernel3.Gen.frame m ρ, fun m ρ _ => Cert.Kernel3Ideal.Gen.frame m ρ, Cert.MainWeight.frame,
    fun m ρ _ => Cert.Kernel4.Gen.frame m ρ, fun m ρ _ => Cert.Kernel4Ideal.Gen.frame m ρ, Cert.MainProduct.frame,
    fun m ρ _ => Cert.Kernel5.Gen.frame m ρ, fun m ρ _ => Cert.Kernel5Ideal.Gen.frame m ρ, Cert.OutInput.frame,
    fun m ρ _ => Cert.Kernel6.Gen.frame m ρ, fun m ρ _ => Cert.Kernel6Ideal.Gen.frame m ρ, Cert.OutWeight.frame,
    fun m ρ _ => Cert.Kernel7.Gen.frame m ρ, fun m ρ _ => Cert.Kernel7Ideal.Gen.frame m ρ, Cert.OutProduct.frame,
    fun m ρ _ => Cert.Kernel8.Gen.frame m ρ, fun m ρ _ => Cert.Kernel8Ideal.Gen.frame m ρ, Cert.InputNorm.frame,
    fun m ρ _ => Cert.Kernel9.Gen.frame m ρ, fun m ρ _ => Cert.Kernel9Ideal.Gen.frame m ρ, Cert.Merge.frame,
    fun m ρ _ => Cert.Kernel10.Gen.frame m ρ, fun m ρ _ => Cert.Kernel10Ideal.Gen.frame m ρ, Cert.MemoryInput.frame,
    fun m ρ _ => Cert.Kernel11.Gen.frame m ρ, fun m ρ _ => Cert.Kernel11Ideal.Gen.frame m ρ, Cert.MemoryWeight.frame,
    fun m ρ _ => Cert.Kernel12.Gen.frame m ρ, fun m ρ _ => Cert.Kernel12Ideal.Gen.frame m ρ, Cert.GateInput.frame,
    fun m ρ _ => Cert.Kernel13.Gen.frame m ρ, fun m ρ _ => Cert.Kernel13Ideal.Gen.frame m ρ, Cert.GateWeight.frame,
    fun m ρ _ => Cert.Kernel14.Gen.frame m ρ, fun m ρ _ => Cert.Kernel14Ideal.Gen.frame m ρ, Cert.MergeForward.frame,
    fun m ρ _ => Cert.Kernel15.Gen.frame m ρ, fun m ρ _ => Cert.Kernel15Ideal.Gen.frame m ρ, Cert.MemoryProduct.frame,
    fun m ρ _ => Cert.Kernel16.Gen.frame m ρ, fun m ρ _ => Cert.Kernel16Ideal.Gen.frame m ρ, Cert.GateProduct.frame,
    fun m ρ _ => Cert.Kernel17.Gen.frame m ρ, fun m ρ _ => Cert.Kernel17Ideal.Gen.frame m ρ, Cert.AdamSmall.frame,
    fun m ρ _ => Cert.Kernel18.Gen.frame m ρ, fun m ρ _ => Cert.Kernel18Ideal.Gen.frame m ρ, Cert.AdamConv.frame,
    fun m ρ _ => Cert.Kernel19.Gen.frame m ρ, fun m ρ _ => Cert.Kernel19Ideal.Gen.frame m ρ, Cert.AdamDepthwise.frame,
    fun m ρ _ => Cert.Kernel20.Gen.frame m ρ, fun m ρ _ => Cert.Kernel20Ideal.Gen.frame m ρ, Cert.AdamProjection.frame,
    fun m ρ _ => Cert.Kernel21.Gen.frame m ρ, fun m ρ _ => Cert.Kernel21Ideal.Gen.frame m ρ, Cert.AdamOut.frame,
    fun m ρ _ => Cert.Kernel22.Gen.frame m ρ, fun m ρ _ => Cert.Kernel22Ideal.Gen.frame m ρ, Cert.AdamMemory.frame,
    fun m ρ _ => Cert.Kernel23.Gen.frame m ρ, fun m ρ _ => Cert.Kernel23Ideal.Gen.frame m ρ, Cert.Attention.frame,
    fun m ρ _ => Cert.Kernel24.Gen.frame m ρ, fun m ρ _ => Cert.Kernel24Ideal.Gen.frame m ρ, Cert.InputNormForward.frame,
    fun m ρ _ => Cert.Kernel25.Gen.frame m ρ, fun m ρ _ => Cert.Kernel25Ideal.Gen.frame m ρ, Cert.MemoryNorm.frame,
    fun m ρ _ => Cert.Kernel26.Gen.frame m ρ, fun m ρ _ => Cert.Kernel26Ideal.Gen.frame m ρ, Cert.HeadNorm.frame,
    trivial, algebraic,
    trivial, Cert.MainInput.algebraic,
    trivial, Cert.MainWeight.algebraic,
    trivial, Cert.MainProduct.algebraic,
    trivial, Cert.OutInput.algebraic,
    trivial, Cert.OutWeight.algebraic,
    trivial, Cert.OutProduct.algebraic,
    trivial, Cert.InputNorm.algebraic,
    trivial, Cert.Merge.algebraic,
    trivial, Cert.MemoryInput.algebraic,
    trivial, Cert.MemoryWeight.algebraic,
    trivial, Cert.GateInput.algebraic,
    trivial, Cert.GateWeight.algebraic,
    trivial, Cert.MergeForward.algebraic,
    trivial, Cert.MemoryProduct.algebraic,
    trivial, Cert.GateProduct.algebraic,
    trivial, Cert.AdamSmall.algebraic,
    trivial, Cert.AdamConv.algebraic,
    trivial, Cert.AdamDepthwise.algebraic,
    trivial, Cert.AdamProjection.algebraic,
    trivial, Cert.AdamOut.algebraic,
    trivial, Cert.AdamMemory.algebraic,
    trivial, Cert.Attention.algebraic,
    trivial, Cert.InputNormForward.algebraic,
    trivial, Cert.MemoryNorm.algebraic,
    trivial, Cert.HeadNorm.algebraic⟩

end Cert.Proof

end
